-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v8) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S128x576x768 : Shape := ⟨3, ![128, 576, 768]⟩
abbrev S576x768 : Shape := ⟨2, ![576, 768]⟩
abbrev S8x576x768 : Shape := ⟨3, ![8, 576, 768]⟩
abbrev S1x576x768 : Shape := ⟨3, ![1, 576, 768]⟩
abbrev S32x576x768 : Shape := ⟨3, ![32, 576, 768]⟩
abbrev S2x1x16x768 : Shape := ⟨4, ![2, 1, 16, 768]⟩
abbrev S2 : Shape := ⟨1, ![2]⟩
abbrev S2x16x768 : Shape := ⟨3, ![2, 16, 768]⟩
abbrev S1x1x16x768 : Shape := ⟨4, ![1, 1, 16, 768]⟩
abbrev S1x16x768 : Shape := ⟨3, ![1, 16, 768]⟩
abbrev S1 : Shape := ⟨1, ![1]⟩
abbrev S_ : Shape := ⟨0, ![]⟩
abbrev S16x768 : Shape := ⟨2, ![16, 768]⟩
abbrev S1x1x16 : Shape := ⟨3, ![1, 1, 16]⟩
abbrev S16 : Shape := ⟨1, ![16]⟩
abbrev S1x16 : Shape := ⟨2, ![1, 16]⟩

abbrev nBuf : Table → Nat
  | .hbm => 8
  | .local .tc .vmem => 5
  | .local .scVector .vmem => 3
  | _ => 0

abbrev bufTy : (tb : Table) → Fin (nBuf tb) → BufTy
  | .hbm, ⟨0, _⟩ => ⟨S128x576x768, .f32⟩
  | .hbm, ⟨1, _⟩ => ⟨S576x768, .f32⟩
  | .hbm, ⟨2, _⟩ => ⟨S128x576x768, .f32⟩
  | .hbm, ⟨3, _⟩ => ⟨S32x576x768, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S128x576x768, .f32⟩
  | .local .tc .vmem, ⟨0, _⟩ => ⟨S8x576x768, .f32⟩
  | .local .tc .vmem, ⟨1, _⟩ => ⟨S8x576x768, .f32⟩
  | .local .tc .vmem, ⟨2, _⟩ => ⟨S576x768, .f32⟩
  | .local .tc .vmem, ⟨3, _⟩ => ⟨S8x576x768, .f32⟩
  | .local .tc .vmem, ⟨4, _⟩ => ⟨S8x576x768, .f32⟩
  | .local .scVector .vmem, ⟨0, _⟩ => ⟨S2x1x16x768, .f32⟩
  | .local .scVector .vmem, ⟨1, _⟩ => ⟨S2x16x768, .f32⟩
  | .local .scVector .vmem, ⟨2, _⟩ => ⟨S2x1x16x768, .f32⟩
  | _, _ => ⟨S128x576x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v2 : Ref sig .tc := ⟨.hbm, 7, rfl⟩
abbrev main_arg0_scv : Ref sig .scVector := ⟨.hbm, 0, rfl⟩
abbrev main_arg1_scv : Ref sig .scVector := ⟨.hbm, 1, rfl⟩
abbrev main_v1_scv : Ref sig .scVector := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_scoped0 : Ref sig .scVector := ⟨.vmem, 0, rfl⟩
abbrev cc1_scoped2 : Ref sig .scVector := ⟨.vmem, 1, rfl⟩
abbrev cc1_scoped4 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x576x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x576x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 : Fin 4 → Nat :=
  let c0_i32_44_r0 : BitVec 32 := 0#32
  let c2_i32_r0 : BitVec 32 := 2#32
  let v47_r0 : BitVec 32 := Scalar.remui c0_i32_44_r0 c2_i32_r0
  let c0_i32_64_r0 : BitVec 32 := 0#32
  let c0_i32_65_r0 : BitVec 32 := 0#32
  let c0_i32_66_r0 : BitVec 32 := 0#32
  ![v47_r0.toNat, 0, 0, 0]
def k1_off2 (i : grid1.Coords) : Fin 3 → Nat :=
  let c1_i32_62_r0 : BitVec 32 := 1#32
  let c96_i32_r0 : BitVec 32 := 96#32
  let c0_i32_3_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v8_r0 : BitVec 32 := Scalar.addi c0_i32_3_r0 v4
  let c8_i32_45_r0 : BitVec 32 := 8#32
  let c0_i32_46_r0 : BitVec 32 := 0#32
  let v48_r0 : BitVec 1 := Scalar.cmpi .eq c8_i32_45_r0 c0_i32_46_r0
  let c1_i32_47_r0 : BitVec 32 := 1#32
  let v49_r0 : BitVec 32 := Scalar.select v48_r0 c1_i32_47_r0 c8_i32_45_r0
  let v50_r0 : BitVec 32 := Scalar.remsi v8_r0 v49_r0
  let c0_i32_49_r0 : BitVec 32 := 0#32
  let v52_r0 : BitVec 1 := Scalar.cmpi .slt v50_r0 c0_i32_49_r0
  let c0_i32_50_r0 : BitVec 32 := 0#32
  let v53_r0 : BitVec 1 := Scalar.cmpi .slt v49_r0 c0_i32_50_r0
  let v54_r0 : BitVec 1 := Scalar.xori v52_r0 v53_r0
  let c0_i32_48_r0 : BitVec 32 := 0#32
  let v51_r0 : BitVec 1 := Scalar.cmpi .ne v50_r0 c0_i32_48_r0
  let v55_r0 : BitVec 1 := Scalar.andi v54_r0 v51_r0
  let v56_r0 : BitVec 32 := Scalar.addi v50_r0 v49_r0
  let v57_r0 : BitVec 32 := Scalar.select v55_r0 v56_r0 v50_r0
  let c4_i32_51_r0 : BitVec 32 := 4#32
  let v58_r0 : BitVec 32 := Scalar.muli v57_r0 c4_i32_51_r0
  let v59_r0 : BitVec 32 := Scalar.addi c96_i32_r0 v58_r0
  let c0_i32_52_r0 : BitVec 32 := 0#32
  let v60_r0 : BitVec 32 := Scalar.addi v59_r0 c0_i32_52_r0
  let v80_r0 : BitVec 32 := Scalar.muli c1_i32_62_r0 v60_r0
  let c16_i32_63_r0 : BitVec 32 := 16#32
  let c0_i32_54_r0 : BitVec 32 := 0#32
  let v62_r0 : BitVec 1 := Scalar.cmpi .sgt v8_r0 c0_i32_54_r0
  let v63_r0 : BitVec 32 := Scalar.extui v62_r0
  let c0_i32_55_r0 : BitVec 32 := 0#32
  let v64_r0 : BitVec 1 := Scalar.cmpi .slt v8_r0 c0_i32_55_r0
  let v65_r0 : BitVec 32 := Scalar.extui v64_r0
  let v66_r0 : BitVec 32 := Scalar.subi v63_r0 v65_r0
  let c8_i32_53_r0 : BitVec 32 := 8#32
  let c0_i32_56_r0 : BitVec 32 := 0#32
  let v67_r0 : BitVec 1 := Scalar.cmpi .sgt c8_i32_53_r0 c0_i32_56_r0
  let v68_r0 : BitVec 32 := Scalar.extui v67_r0
  let c0_i32_57_r0 : BitVec 32 := 0#32
  let v69_r0 : BitVec 1 := Scalar.cmpi .slt c8_i32_53_r0 c0_i32_57_r0
  let v70_r0 : BitVec 32 := Scalar.extui v69_r0
  let v71_r0 : BitVec 32 := Scalar.subi v68_r0 v70_r0
  let v72_r0 : BitVec 1 := Scalar.cmpi .ne v66_r0 v71_r0
  let v73_r0 : BitVec 32 := Scalar.remsi v8_r0 c8_i32_53_r0
  let c0_i32_58_r0 : BitVec 32 := 0#32
  let v74_r0 : BitVec 1 := Scalar.cmpi .ne v73_r0 c0_i32_58_r0
  let v75_r0 : BitVec 1 := Scalar.andi v72_r0 v74_r0
  let v61_r0 : BitVec 32 := Scalar.divsi v8_r0 c8_i32_53_r0
  let c1_i32_59_r0 : BitVec 32 := 1#32
  let v76_r0 : BitVec 32 := Scalar.subi v61_r0 c1_i32_59_r0
  let v77_r0 : BitVec 32 := Scalar.select v75_r0 v76_r0 v61_r0
  let c9_i32_60_r0 : BitVec 32 := 9#32
  let v78_r0 : BitVec 32 := Scalar.muli v77_r0 c9_i32_60_r0
  let c0_i32_61_r0 : BitVec 32 := 0#32
  let v79_r0 : BitVec 32 := Scalar.addi v78_r0 c0_i32_61_r0
  let v81_r0 : BitVec 32 := Scalar.muli c16_i32_63_r0 v79_r0
  let c0_i32_67_r0 : BitVec 32 := 0#32
  ![v80_r0.toNat, v81_r0.toNat, 0]
def k1_off3 : Fin 1 → Nat :=
  let c0_i32_44_r0 : BitVec 32 := 0#32
  let c2_i32_r0 : BitVec 32 := 2#32
  let v47_r0 : BitVec 32 := Scalar.remui c0_i32_44_r0 c2_i32_r0
  ![v47_r0.toNat]
def k1_off4 : Fin 3 → Nat :=
  let c0_i32_74_r0 : BitVec 32 := 0#32
  let c2_i32_75_r0 : BitVec 32 := 2#32
  let v91_r0 : BitVec 32 := Scalar.remui c0_i32_74_r0 c2_i32_75_r0
  let c0_i32_86_r0 : BitVec 32 := 0#32
  let c0_i32_87_r0 : BitVec 32 := 0#32
  ![v91_r0.toNat, 0, 0]
def k1_off5 (i : grid1.Coords) : Fin 2 → Nat :=
  let c16_i32_85_r0 : BitVec 32 := 16#32
  let c0_i32_3_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v8_r0 : BitVec 32 := Scalar.addi c0_i32_3_r0 v4
  let c0_i32_77_r0 : BitVec 32 := 0#32
  let v93_r0 : BitVec 1 := Scalar.cmpi .sgt v8_r0 c0_i32_77_r0
  let v94_r0 : BitVec 32 := Scalar.extui v93_r0
  let c0_i32_78_r0 : BitVec 32 := 0#32
  let v95_r0 : BitVec 1 := Scalar.cmpi .slt v8_r0 c0_i32_78_r0
  let v96_r0 : BitVec 32 := Scalar.extui v95_r0
  let v97_r0 : BitVec 32 := Scalar.subi v94_r0 v96_r0
  let c8_i32_76_r0 : BitVec 32 := 8#32
  let c0_i32_79_r0 : BitVec 32 := 0#32
  let v98_r0 : BitVec 1 := Scalar.cmpi .sgt c8_i32_76_r0 c0_i32_79_r0
  let v99_r0 : BitVec 32 := Scalar.extui v98_r0
  let c0_i32_80_r0 : BitVec 32 := 0#32
  let v100_r0 : BitVec 1 := Scalar.cmpi .slt c8_i32_76_r0 c0_i32_80_r0
  let v101_r0 : BitVec 32 := Scalar.extui v100_r0
  let v102_r0 : BitVec 32 := Scalar.subi v99_r0 v101_r0
  let v103_r0 : BitVec 1 := Scalar.cmpi .ne v97_r0 v102_r0
  let v104_r0 : BitVec 32 := Scalar.remsi v8_r0 c8_i32_76_r0
  let c0_i32_81_r0 : BitVec 32 := 0#32
  let v105_r0 : BitVec 1 := Scalar.cmpi .ne v104_r0 c0_i32_81_r0
  let v106_r0 : BitVec 1 := Scalar.andi v103_r0 v105_r0
  let v92_r0 : BitVec 32 := Scalar.divsi v8_r0 c8_i32_76_r0
  let c1_i32_82_r0 : BitVec 32 := 1#32
  let v107_r0 : BitVec 32 := Scalar.subi v92_r0 c1_i32_82_r0
  let v108_r0 : BitVec 32 := Scalar.select v106_r0 v107_r0 v92_r0
  let c9_i32_83_r0 : BitVec 32 := 9#32
  let v109_r0 : BitVec 32 := Scalar.muli v108_r0 c9_i32_83_r0
  let c0_i32_84_r0 : BitVec 32 := 0#32
  let v110_r0 : BitVec 32 := Scalar.addi v109_r0 c0_i32_84_r0
  let v111_r0 : BitVec 32 := Scalar.muli c16_i32_85_r0 v110_r0
  let c0_i32_88_r0 : BitVec 32 := 0#32
  ![v111_r0.toNat, 0]
@[reducible] def k1_t1_loop : Scf.Loop 32 :=
  let c0_i32_101_r0 : BitVec 32 := 0#32
  let c36_i32_r0 : BitVec 32 := 36#32
  let v121_r0 : BitVec 32 := Scalar.addi c0_i32_101_r0 c36_i32_r0
  let c1_i32_102_r0 : BitVec 32 := 1#32
  ⟨c0_i32_101_r0, v121_r0, c1_i32_102_r0⟩
def k1_off6 (arg6_r0 : BitVec 32) : Fin 4 → Nat :=
  let c2_i32_405_r0 : BitVec 32 := 2#32
  let v635_r0 : BitVec 32 := Scalar.remui arg6_r0 c2_i32_405_r0
  let c0_i32_424_r0 : BitVec 32 := 0#32
  let c0_i32_425_r0 : BitVec 32 := 0#32
  let c0_i32_426_r0 : BitVec 32 := 0#32
  ![v635_r0.toNat, 0, 0, 0]
def k1_cond1 (i : grid1.Coords) (k1_t1 : Fin k1_t1_loop.trips) (arg13_r0 : BitVec 32) (arg14_r0 : BitVec 32) : BitVec 1 :=
  let c96_i32_238_r0 : BitVec 32 := 96#32
  let c0_i32_186_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v224_r0 : BitVec 32 := Scalar.addi c0_i32_186_r0 v4
  let c8_i32_231_r0 : BitVec 32 := 8#32
  let c0_i32_232_r0 : BitVec 32 := 0#32
  let v269_r0 : BitVec 1 := Scalar.cmpi .eq c8_i32_231_r0 c0_i32_232_r0
  let c1_i32_233_r0 : BitVec 32 := 1#32
  let v270_r0 : BitVec 32 := Scalar.select v269_r0 c1_i32_233_r0 c8_i32_231_r0
  let v271_r0 : BitVec 32 := Scalar.remsi v224_r0 v270_r0
  let c0_i32_235_r0 : BitVec 32 := 0#32
  let v273_r0 : BitVec 1 := Scalar.cmpi .slt v271_r0 c0_i32_235_r0
  let c0_i32_236_r0 : BitVec 32 := 0#32
  let v274_r0 : BitVec 1 := Scalar.cmpi .slt v270_r0 c0_i32_236_r0
  let v275_r0 : BitVec 1 := Scalar.xori v273_r0 v274_r0
  let c0_i32_234_r0 : BitVec 32 := 0#32
  let v272_r0 : BitVec 1 := Scalar.cmpi .ne v271_r0 c0_i32_234_r0
  let v276_r0 : BitVec 1 := Scalar.andi v275_r0 v272_r0
  let v277_r0 : BitVec 32 := Scalar.addi v271_r0 v270_r0
  let v278_r0 : BitVec 32 := Scalar.select v276_r0 v277_r0 v271_r0
  let c4_i32_237_r0 : BitVec 32 := 4#32
  let v279_r0 : BitVec 32 := Scalar.muli v278_r0 c4_i32_237_r0
  let v280_r0 : BitVec 32 := Scalar.addi c96_i32_238_r0 v279_r0
  let c0_i32_188_r0 : BitVec 32 := 0#32
  let v226_r0 : BitVec 32 := Scalar.addi arg14_r0 c0_i32_188_r0
  let v281_r0 : BitVec 32 := Scalar.addi v280_r0 v226_r0
  let c96_i32_254_r0 : BitVec 32 := 96#32
  let c0_i32_214_r0 : BitVec 32 := 0#32
  let v252_r0 : BitVec 32 := Scalar.addi c0_i32_214_r0 v4
  let c8_i32_247_r0 : BitVec 32 := 8#32
  let c0_i32_248_r0 : BitVec 32 := 0#32
  let v301_r0 : BitVec 1 := Scalar.cmpi .eq c8_i32_247_r0 c0_i32_248_r0
  let c1_i32_249_r0 : BitVec 32 := 1#32
  let v302_r0 : BitVec 32 := Scalar.select v301_r0 c1_i32_249_r0 c8_i32_247_r0
  let v303_r0 : BitVec 32 := Scalar.remsi v252_r0 v302_r0
  let c0_i32_251_r0 : BitVec 32 := 0#32
  let v305_r0 : BitVec 1 := Scalar.cmpi .slt v303_r0 c0_i32_251_r0
  let c0_i32_252_r0 : BitVec 32 := 0#32
  let v306_r0 : BitVec 1 := Scalar.cmpi .slt v302_r0 c0_i32_252_r0
  let v307_r0 : BitVec 1 := Scalar.xori v305_r0 v306_r0
  let c0_i32_250_r0 : BitVec 32 := 0#32
  let v304_r0 : BitVec 1 := Scalar.cmpi .ne v303_r0 c0_i32_250_r0
  let v308_r0 : BitVec 1 := Scalar.andi v307_r0 v304_r0
  let v309_r0 : BitVec 32 := Scalar.addi v303_r0 v302_r0
  let v310_r0 : BitVec 32 := Scalar.select v308_r0 v309_r0 v303_r0
  let c4_i32_253_r0 : BitVec 32 := 4#32
  let v311_r0 : BitVec 32 := Scalar.muli v310_r0 c4_i32_253_r0
  let v312_r0 : BitVec 32 := Scalar.addi c96_i32_254_r0 v311_r0
  let true_204_r0 : BitVec 1 := 1#1
  let c1_i32_203_r0 : BitVec 32 := 1#32
  let v241_r0 : BitVec 32 := Scalar.addi arg14_r0 c1_i32_203_r0
  let v242_r0 : BitVec 32 := Scalar.select true_204_r0 v241_r0 arg14_r0
  let c4_i32_205_r0 : BitVec 32 := 4#32
  let v243_r0 : BitVec 1 := Scalar.cmpi .eq v242_r0 c4_i32_205_r0
  let c0_i32_206_r0 : BitVec 32 := 0#32
  let v244_r0 : BitVec 32 := Scalar.select v243_r0 c0_i32_206_r0 v242_r0
  let c0_i32_216_r0 : BitVec 32 := 0#32
  let v254_r0 : BitVec 32 := Scalar.addi v244_r0 c0_i32_216_r0
  let v313_r0 : BitVec 32 := Scalar.addi v312_r0 v254_r0
  let v333_r0 : BitVec 1 := Scalar.cmpi .ne v281_r0 v313_r0
  let c0_i32_240_r0 : BitVec 32 := 0#32
  let v283_r0 : BitVec 1 := Scalar.cmpi .sgt v224_r0 c0_i32_240_r0
  let v284_r0 : BitVec 32 := Scalar.extui v283_r0
  let c0_i32_241_r0 : BitVec 32 := 0#32
  let v285_r0 : BitVec 1 := Scalar.cmpi .slt v224_r0 c0_i32_241_r0
  let v286_r0 : BitVec 32 := Scalar.extui v285_r0
  let v287_r0 : BitVec 32 := Scalar.subi v284_r0 v286_r0
  let c8_i32_239_r0 : BitVec 32 := 8#32
  let c0_i32_242_r0 : BitVec 32 := 0#32
  let v288_r0 : BitVec 1 := Scalar.cmpi .sgt c8_i32_239_r0 c0_i32_242_r0
  let v289_r0 : BitVec 32 := Scalar.extui v288_r0
  let c0_i32_243_r0 : BitVec 32 := 0#32
  let v290_r0 : BitVec 1 := Scalar.cmpi .slt c8_i32_239_r0 c0_i32_243_r0
  let v291_r0 : BitVec 32 := Scalar.extui v290_r0
  let v292_r0 : BitVec 32 := Scalar.subi v289_r0 v291_r0
  let v293_r0 : BitVec 1 := Scalar.cmpi .ne v287_r0 v292_r0
  let v294_r0 : BitVec 32 := Scalar.remsi v224_r0 c8_i32_239_r0
  let c0_i32_244_r0 : BitVec 32 := 0#32
  let v295_r0 : BitVec 1 := Scalar.cmpi .ne v294_r0 c0_i32_244_r0
  let v296_r0 : BitVec 1 := Scalar.andi v293_r0 v295_r0
  let v282_r0 : BitVec 32 := Scalar.divsi v224_r0 c8_i32_239_r0
  let c1_i32_245_r0 : BitVec 32 := 1#32
  let v297_r0 : BitVec 32 := Scalar.subi v282_r0 c1_i32_245_r0
  let v298_r0 : BitVec 32 := Scalar.select v296_r0 v297_r0 v282_r0
  let c9_i32_246_r0 : BitVec 32 := 9#32
  let v299_r0 : BitVec 32 := Scalar.muli v298_r0 c9_i32_246_r0
  let c0_i32_187_r0 : BitVec 32 := 0#32
  let v225_r0 : BitVec 32 := Scalar.addi arg13_r0 c0_i32_187_r0
  let v300_r0 : BitVec 32 := Scalar.addi v299_r0 v225_r0
  let c0_i32_256_r0 : BitVec 32 := 0#32
  let v315_r0 : BitVec 1 := Scalar.cmpi .sgt v252_r0 c0_i32_256_r0
  let v316_r0 : BitVec 32 := Scalar.extui v315_r0
  let c0_i32_257_r0 : BitVec 32 := 0#32
  let v317_r0 : BitVec 1 := Scalar.cmpi .slt v252_r0 c0_i32_257_r0
  let v318_r0 : BitVec 32 := Scalar.extui v317_r0
  let v319_r0 : BitVec 32 := Scalar.subi v316_r0 v318_r0
  let c8_i32_255_r0 : BitVec 32 := 8#32
  let c0_i32_258_r0 : BitVec 32 := 0#32
  let v320_r0 : BitVec 1 := Scalar.cmpi .sgt c8_i32_255_r0 c0_i32_258_r0
  let v321_r0 : BitVec 32 := Scalar.extui v320_r0
  let c0_i32_259_r0 : BitVec 32 := 0#32
  let v322_r0 : BitVec 1 := Scalar.cmpi .slt c8_i32_255_r0 c0_i32_259_r0
  let v323_r0 : BitVec 32 := Scalar.extui v322_r0
  let v324_r0 : BitVec 32 := Scalar.subi v321_r0 v323_r0
  let v325_r0 : BitVec 1 := Scalar.cmpi .ne v319_r0 v324_r0
  let v326_r0 : BitVec 32 := Scalar.remsi v252_r0 c8_i32_255_r0
  let c0_i32_260_r0 : BitVec 32 := 0#32
  let v327_r0 : BitVec 1 := Scalar.cmpi .ne v326_r0 c0_i32_260_r0
  let v328_r0 : BitVec 1 := Scalar.andi v325_r0 v327_r0
  let v314_r0 : BitVec 32 := Scalar.divsi v252_r0 c8_i32_255_r0
  let c1_i32_261_r0 : BitVec 32 := 1#32
  let v329_r0 : BitVec 32 := Scalar.subi v314_r0 c1_i32_261_r0
  let v330_r0 : BitVec 32 := Scalar.select v328_r0 v329_r0 v314_r0
  let c9_i32_262_r0 : BitVec 32 := 9#32
  let v331_r0 : BitVec 32 := Scalar.muli v330_r0 c9_i32_262_r0
  let c1_i32_207_r0 : BitVec 32 := 1#32
  let v245_r0 : BitVec 32 := Scalar.addi arg13_r0 c1_i32_207_r0
  let v246_r0 : BitVec 32 := Scalar.select v243_r0 v245_r0 arg13_r0
  let c9_i32_208_r0 : BitVec 32 := 9#32
  let v247_r0 : BitVec 1 := Scalar.cmpi .eq v246_r0 c9_i32_208_r0
  let c0_i32_209_r0 : BitVec 32 := 0#32
  let v248_r0 : BitVec 32 := Scalar.select v247_r0 c0_i32_209_r0 v246_r0
  let c0_i32_215_r0 : BitVec 32 := 0#32
  let v253_r0 : BitVec 32 := Scalar.addi v248_r0 c0_i32_215_r0
  let v332_r0 : BitVec 32 := Scalar.addi v331_r0 v253_r0
  let v334_r0 : BitVec 1 := Scalar.cmpi .ne v300_r0 v332_r0
  let v335_r0 : BitVec 1 := Scalar.ori v333_r0 v334_r0
  let c0_i32_101_r0 : BitVec 32 := 0#32
  let c1_i32_102_r0 : BitVec 32 := 1#32
  let arg5_r0 : BitVec 32 := Scf.iv c0_i32_101_r0 c1_i32_102_r0 k1_t1
  let c35_i32_263_r0 : BitVec 32 := 35#32
  let v336_r0 : BitVec 1 := Scalar.cmpi .sge arg5_r0 c35_i32_263_r0
  let true_264_r0 : BitVec 1 := 1#1
  let v337_r0 : BitVec 1 := Scalar.xori v336_r0 true_264_r0
  let v338_r0 : BitVec 1 := Scalar.andi v335_r0 v337_r0
  let true_265_r0 : BitVec 1 := 1#1
  let v339_r0 : BitVec 1 := Scalar.andi v338_r0 true_265_r0
  let v340_r0 : BitVec 32 := Scalar.extui v339_r0
  let c0_i32_266_r0 : BitVec 32 := 0#32
  let v341_r0 : BitVec 1 := Scalar.cmpi .ne v340_r0 c0_i32_266_r0
  v341_r0

def k1_off7 (i : grid1.Coords) (arg13_r0 : BitVec 32) (arg14_r0 : BitVec 32) : Fin 3 → Nat :=
  let c1_i32_422_r0 : BitVec 32 := 1#32
  let c96_i32_413_r0 : BitVec 32 := 96#32
  let c0_i32_214_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v252_r0 : BitVec 32 := Scalar.addi c0_i32_214_r0 v4
  let c8_i32_406_r0 : BitVec 32 := 8#32
  let c0_i32_407_r0 : BitVec 32 := 0#32
  let v636_r0 : BitVec 1 := Scalar.cmpi .eq c8_i32_406_r0 c0_i32_407_r0
  let c1_i32_408_r0 : BitVec 32 := 1#32
  let v637_r0 : BitVec 32 := Scalar.select v636_r0 c1_i32_408_r0 c8_i32_406_r0
  let v638_r0 : BitVec 32 := Scalar.remsi v252_r0 v637_r0
  let c0_i32_410_r0 : BitVec 32 := 0#32
  let v640_r0 : BitVec 1 := Scalar.cmpi .slt v638_r0 c0_i32_410_r0
  let c0_i32_411_r0 : BitVec 32 := 0#32
  let v641_r0 : BitVec 1 := Scalar.cmpi .slt v637_r0 c0_i32_411_r0
  let v642_r0 : BitVec 1 := Scalar.xori v640_r0 v641_r0
  let c0_i32_409_r0 : BitVec 32 := 0#32
  let v639_r0 : BitVec 1 := Scalar.cmpi .ne v638_r0 c0_i32_409_r0
  let v643_r0 : BitVec 1 := Scalar.andi v642_r0 v639_r0
  let v644_r0 : BitVec 32 := Scalar.addi v638_r0 v637_r0
  let v645_r0 : BitVec 32 := Scalar.select v643_r0 v644_r0 v638_r0
  let c4_i32_412_r0 : BitVec 32 := 4#32
  let v646_r0 : BitVec 32 := Scalar.muli v645_r0 c4_i32_412_r0
  let v647_r0 : BitVec 32 := Scalar.addi c96_i32_413_r0 v646_r0
  let true_204_r0 : BitVec 1 := 1#1
  let c1_i32_203_r0 : BitVec 32 := 1#32
  let v241_r0 : BitVec 32 := Scalar.addi arg14_r0 c1_i32_203_r0
  let v242_r0 : BitVec 32 := Scalar.select true_204_r0 v241_r0 arg14_r0
  let c4_i32_205_r0 : BitVec 32 := 4#32
  let v243_r0 : BitVec 1 := Scalar.cmpi .eq v242_r0 c4_i32_205_r0
  let c0_i32_206_r0 : BitVec 32 := 0#32
  let v244_r0 : BitVec 32 := Scalar.select v243_r0 c0_i32_206_r0 v242_r0
  let c0_i32_216_r0 : BitVec 32 := 0#32
  let v254_r0 : BitVec 32 := Scalar.addi v244_r0 c0_i32_216_r0
  let v648_r0 : BitVec 32 := Scalar.addi v647_r0 v254_r0
  let v668_r0 : BitVec 32 := Scalar.muli c1_i32_422_r0 v648_r0
  let c16_i32_423_r0 : BitVec 32 := 16#32
  let c0_i32_415_r0 : BitVec 32 := 0#32
  let v650_r0 : BitVec 1 := Scalar.cmpi .sgt v252_r0 c0_i32_415_r0
  let v651_r0 : BitVec 32 := Scalar.extui v650_r0
  let c0_i32_416_r0 : BitVec 32 := 0#32
  let v652_r0 : BitVec 1 := Scalar.cmpi .slt v252_r0 c0_i32_416_r0
  let v653_r0 : BitVec 32 := Scalar.extui v652_r0
  let v654_r0 : BitVec 32 := Scalar.subi v651_r0 v653_r0
  let c8_i32_414_r0 : BitVec 32 := 8#32
  let c0_i32_417_r0 : BitVec 32 := 0#32
  let v655_r0 : BitVec 1 := Scalar.cmpi .sgt c8_i32_414_r0 c0_i32_417_r0
  let v656_r0 : BitVec 32 := Scalar.extui v655_r0
  let c0_i32_418_r0 : BitVec 32 := 0#32
  let v657_r0 : BitVec 1 := Scalar.cmpi .slt c8_i32_414_r0 c0_i32_418_r0
  let v658_r0 : BitVec 32 := Scalar.extui v657_r0
  let v659_r0 : BitVec 32 := Scalar.subi v656_r0 v658_r0
  let v660_r0 : BitVec 1 := Scalar.cmpi .ne v654_r0 v659_r0
  let v661_r0 : BitVec 32 := Scalar.remsi v252_r0 c8_i32_414_r0
  let c0_i32_419_r0 : BitVec 32 := 0#32
  let v662_r0 : BitVec 1 := Scalar.cmpi .ne v661_r0 c0_i32_419_r0
  let v663_r0 : BitVec 1 := Scalar.andi v660_r0 v662_r0
  let v649_r0 : BitVec 32 := Scalar.divsi v252_r0 c8_i32_414_r0
  let c1_i32_420_r0 : BitVec 32 := 1#32
  let v664_r0 : BitVec 32 := Scalar.subi v649_r0 c1_i32_420_r0
  let v665_r0 : BitVec 32 := Scalar.select v663_r0 v664_r0 v649_r0
  let c9_i32_421_r0 : BitVec 32 := 9#32
  let v666_r0 : BitVec 32 := Scalar.muli v665_r0 c9_i32_421_r0
  let c1_i32_207_r0 : BitVec 32 := 1#32
  let v245_r0 : BitVec 32 := Scalar.addi arg13_r0 c1_i32_207_r0
  let v246_r0 : BitVec 32 := Scalar.select v243_r0 v245_r0 arg13_r0
  let c9_i32_208_r0 : BitVec 32 := 9#32
  let v247_r0 : BitVec 1 := Scalar.cmpi .eq v246_r0 c9_i32_208_r0
  let c0_i32_209_r0 : BitVec 32 := 0#32
  let v248_r0 : BitVec 32 := Scalar.select v247_r0 c0_i32_209_r0 v246_r0
  let c0_i32_215_r0 : BitVec 32 := 0#32
  let v253_r0 : BitVec 32 := Scalar.addi v248_r0 c0_i32_215_r0
  let v667_r0 : BitVec 32 := Scalar.addi v666_r0 v253_r0
  let v669_r0 : BitVec 32 := Scalar.muli c16_i32_423_r0 v667_r0
  let c0_i32_427_r0 : BitVec 32 := 0#32
  ![v668_r0.toNat, v669_r0.toNat, 0]
def k1_off8 (arg6_r0 : BitVec 32) : Fin 1 → Nat :=
  let c2_i32_405_r0 : BitVec 32 := 2#32
  let v635_r0 : BitVec 32 := Scalar.remui arg6_r0 c2_i32_405_r0
  ![v635_r0.toNat]
def k1_off9 (arg8_r0 : BitVec 32) : Fin 3 → Nat :=
  let c2_i32_405_r0 : BitVec 32 := 2#32
  let v635_r0 : BitVec 32 := Scalar.remui arg8_r0 c2_i32_405_r0
  let c0_i32_415_r0 : BitVec 32 := 0#32
  let c0_i32_416_r0 : BitVec 32 := 0#32
  ![v635_r0.toNat, 0, 0]
def k1_cond2 (i : grid1.Coords) (k1_t1 : Fin k1_t1_loop.trips) (arg13_r0 : BitVec 32) (arg14_r0 : BitVec 32) : BitVec 1 :=
  let c0_i32_186_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v224_r0 : BitVec 32 := Scalar.addi c0_i32_186_r0 v4
  let c0_i32_270_r0 : BitVec 32 := 0#32
  let v346_r0 : BitVec 1 := Scalar.cmpi .sgt v224_r0 c0_i32_270_r0
  let v347_r0 : BitVec 32 := Scalar.extui v346_r0
  let c0_i32_271_r0 : BitVec 32 := 0#32
  let v348_r0 : BitVec 1 := Scalar.cmpi .slt v224_r0 c0_i32_271_r0
  let v349_r0 : BitVec 32 := Scalar.extui v348_r0
  let v350_r0 : BitVec 32 := Scalar.subi v347_r0 v349_r0
  let c8_i32_269_r0 : BitVec 32 := 8#32
  let c0_i32_272_r0 : BitVec 32 := 0#32
  let v351_r0 : BitVec 1 := Scalar.cmpi .sgt c8_i32_269_r0 c0_i32_272_r0
  let v352_r0 : BitVec 32 := Scalar.extui v351_r0
  let c0_i32_273_r0 : BitVec 32 := 0#32
  let v353_r0 : BitVec 1 := Scalar.cmpi .slt c8_i32_269_r0 c0_i32_273_r0
  let v354_r0 : BitVec 32 := Scalar.extui v353_r0
  let v355_r0 : BitVec 32 := Scalar.subi v352_r0 v354_r0
  let v356_r0 : BitVec 1 := Scalar.cmpi .ne v350_r0 v355_r0
  let v357_r0 : BitVec 32 := Scalar.remsi v224_r0 c8_i32_269_r0
  let c0_i32_274_r0 : BitVec 32 := 0#32
  let v358_r0 : BitVec 1 := Scalar.cmpi .ne v357_r0 c0_i32_274_r0
  let v359_r0 : BitVec 1 := Scalar.andi v356_r0 v358_r0
  let v345_r0 : BitVec 32 := Scalar.divsi v224_r0 c8_i32_269_r0
  let c1_i32_275_r0 : BitVec 32 := 1#32
  let v360_r0 : BitVec 32 := Scalar.subi v345_r0 c1_i32_275_r0
  let v361_r0 : BitVec 32 := Scalar.select v359_r0 v360_r0 v345_r0
  let c9_i32_276_r0 : BitVec 32 := 9#32
  let v362_r0 : BitVec 32 := Scalar.muli v361_r0 c9_i32_276_r0
  let c0_i32_187_r0 : BitVec 32 := 0#32
  let v225_r0 : BitVec 32 := Scalar.addi arg13_r0 c0_i32_187_r0
  let v363_r0 : BitVec 32 := Scalar.addi v362_r0 v225_r0
  let c0_i32_214_r0 : BitVec 32 := 0#32
  let v252_r0 : BitVec 32 := Scalar.addi c0_i32_214_r0 v4
  let c0_i32_278_r0 : BitVec 32 := 0#32
  let v365_r0 : BitVec 1 := Scalar.cmpi .sgt v252_r0 c0_i32_278_r0
  let v366_r0 : BitVec 32 := Scalar.extui v365_r0
  let c0_i32_279_r0 : BitVec 32 := 0#32
  let v367_r0 : BitVec 1 := Scalar.cmpi .slt v252_r0 c0_i32_279_r0
  let v368_r0 : BitVec 32 := Scalar.extui v367_r0
  let v369_r0 : BitVec 32 := Scalar.subi v366_r0 v368_r0
  let c8_i32_277_r0 : BitVec 32 := 8#32
  let c0_i32_280_r0 : BitVec 32 := 0#32
  let v370_r0 : BitVec 1 := Scalar.cmpi .sgt c8_i32_277_r0 c0_i32_280_r0
  let v371_r0 : BitVec 32 := Scalar.extui v370_r0
  let c0_i32_281_r0 : BitVec 32 := 0#32
  let v372_r0 : BitVec 1 := Scalar.cmpi .slt c8_i32_277_r0 c0_i32_281_r0
  let v373_r0 : BitVec 32 := Scalar.extui v372_r0
  let v374_r0 : BitVec 32 := Scalar.subi v371_r0 v373_r0
  let v375_r0 : BitVec 1 := Scalar.cmpi .ne v369_r0 v374_r0
  let v376_r0 : BitVec 32 := Scalar.remsi v252_r0 c8_i32_277_r0
  let c0_i32_282_r0 : BitVec 32 := 0#32
  let v377_r0 : BitVec 1 := Scalar.cmpi .ne v376_r0 c0_i32_282_r0
  let v378_r0 : BitVec 1 := Scalar.andi v375_r0 v377_r0
  let v364_r0 : BitVec 32 := Scalar.divsi v252_r0 c8_i32_277_r0
  let c1_i32_283_r0 : BitVec 32 := 1#32
  let v379_r0 : BitVec 32 := Scalar.subi v364_r0 c1_i32_283_r0
  let v380_r0 : BitVec 32 := Scalar.select v378_r0 v379_r0 v364_r0
  let c9_i32_284_r0 : BitVec 32 := 9#32
  let v381_r0 : BitVec 32 := Scalar.muli v380_r0 c9_i32_284_r0
  let true_204_r0 : BitVec 1 := 1#1
  let c1_i32_203_r0 : BitVec 32 := 1#32
  let v241_r0 : BitVec 32 := Scalar.addi arg14_r0 c1_i32_203_r0
  let v242_r0 : BitVec 32 := Scalar.select true_204_r0 v241_r0 arg14_r0
  let c4_i32_205_r0 : BitVec 32 := 4#32
  let v243_r0 : BitVec 1 := Scalar.cmpi .eq v242_r0 c4_i32_205_r0
  let c1_i32_207_r0 : BitVec 32 := 1#32
  let v245_r0 : BitVec 32 := Scalar.addi arg13_r0 c1_i32_207_r0
  let v246_r0 : BitVec 32 := Scalar.select v243_r0 v245_r0 arg13_r0
  let c9_i32_208_r0 : BitVec 32 := 9#32
  let v247_r0 : BitVec 1 := Scalar.cmpi .eq v246_r0 c9_i32_208_r0
  let c0_i32_209_r0 : BitVec 32 := 0#32
  let v248_r0 : BitVec 32 := Scalar.select v247_r0 c0_i32_209_r0 v246_r0
  let c0_i32_215_r0 : BitVec 32 := 0#32
  let v253_r0 : BitVec 32 := Scalar.addi v248_r0 c0_i32_215_r0
  let v382_r0 : BitVec 32 := Scalar.addi v381_r0 v253_r0
  let v383_r0 : BitVec 1 := Scalar.cmpi .ne v363_r0 v382_r0
  let c0_i32_101_r0 : BitVec 32 := 0#32
  let c1_i32_102_r0 : BitVec 32 := 1#32
  let arg5_r0 : BitVec 32 := Scf.iv c0_i32_101_r0 c1_i32_102_r0 k1_t1
  let c35_i32_285_r0 : BitVec 32 := 35#32
  let v384_r0 : BitVec 1 := Scalar.cmpi .sge arg5_r0 c35_i32_285_r0
  let true_286_r0 : BitVec 1 := 1#1
  let v385_r0 : BitVec 1 := Scalar.xori v384_r0 true_286_r0
  let v386_r0 : BitVec 1 := Scalar.andi v383_r0 v385_r0
  let true_287_r0 : BitVec 1 := 1#1
  let v387_r0 : BitVec 1 := Scalar.andi v386_r0 true_287_r0
  let v388_r0 : BitVec 32 := Scalar.extui v387_r0
  let c0_i32_288_r0 : BitVec 32 := 0#32
  let v389_r0 : BitVec 1 := Scalar.cmpi .ne v388_r0 c0_i32_288_r0
  v389_r0

def k1_off10 (i : grid1.Coords) (arg13_r0 : BitVec 32) (arg14_r0 : BitVec 32) : Fin 2 → Nat :=
  let c16_i32_414_r0 : BitVec 32 := 16#32
  let c0_i32_214_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v252_r0 : BitVec 32 := Scalar.addi c0_i32_214_r0 v4
  let c0_i32_407_r0 : BitVec 32 := 0#32
  let v637_r0 : BitVec 1 := Scalar.cmpi .sgt v252_r0 c0_i32_407_r0
  let v638_r0 : BitVec 32 := Scalar.extui v637_r0
  let c0_i32_408_r0 : BitVec 32 := 0#32
  let v639_r0 : BitVec 1 := Scalar.cmpi .slt v252_r0 c0_i32_408_r0
  let v640_r0 : BitVec 32 := Scalar.extui v639_r0
  let v641_r0 : BitVec 32 := Scalar.subi v638_r0 v640_r0
  let c8_i32_406_r0 : BitVec 32 := 8#32
  let c0_i32_409_r0 : BitVec 32 := 0#32
  let v642_r0 : BitVec 1 := Scalar.cmpi .sgt c8_i32_406_r0 c0_i32_409_r0
  let v643_r0 : BitVec 32 := Scalar.extui v642_r0
  let c0_i32_410_r0 : BitVec 32 := 0#32
  let v644_r0 : BitVec 1 := Scalar.cmpi .slt c8_i32_406_r0 c0_i32_410_r0
  let v645_r0 : BitVec 32 := Scalar.extui v644_r0
  let v646_r0 : BitVec 32 := Scalar.subi v643_r0 v645_r0
  let v647_r0 : BitVec 1 := Scalar.cmpi .ne v641_r0 v646_r0
  let v648_r0 : BitVec 32 := Scalar.remsi v252_r0 c8_i32_406_r0
  let c0_i32_411_r0 : BitVec 32 := 0#32
  let v649_r0 : BitVec 1 := Scalar.cmpi .ne v648_r0 c0_i32_411_r0
  let v650_r0 : BitVec 1 := Scalar.andi v647_r0 v649_r0
  let v636_r0 : BitVec 32 := Scalar.divsi v252_r0 c8_i32_406_r0
  let c1_i32_412_r0 : BitVec 32 := 1#32
  let v651_r0 : BitVec 32 := Scalar.subi v636_r0 c1_i32_412_r0
  let v652_r0 : BitVec 32 := Scalar.select v650_r0 v651_r0 v636_r0
  let c9_i32_413_r0 : BitVec 32 := 9#32
  let v653_r0 : BitVec 32 := Scalar.muli v652_r0 c9_i32_413_r0
  let true_204_r0 : BitVec 1 := 1#1
  let c1_i32_203_r0 : BitVec 32 := 1#32
  let v241_r0 : BitVec 32 := Scalar.addi arg14_r0 c1_i32_203_r0
  let v242_r0 : BitVec 32 := Scalar.select true_204_r0 v241_r0 arg14_r0
  let c4_i32_205_r0 : BitVec 32 := 4#32
  let v243_r0 : BitVec 1 := Scalar.cmpi .eq v242_r0 c4_i32_205_r0
  let c1_i32_207_r0 : BitVec 32 := 1#32
  let v245_r0 : BitVec 32 := Scalar.addi arg13_r0 c1_i32_207_r0
  let v246_r0 : BitVec 32 := Scalar.select v243_r0 v245_r0 arg13_r0
  let c9_i32_208_r0 : BitVec 32 := 9#32
  let v247_r0 : BitVec 1 := Scalar.cmpi .eq v246_r0 c9_i32_208_r0
  let c0_i32_209_r0 : BitVec 32 := 0#32
  let v248_r0 : BitVec 32 := Scalar.select v247_r0 c0_i32_209_r0 v246_r0
  let c0_i32_215_r0 : BitVec 32 := 0#32
  let v253_r0 : BitVec 32 := Scalar.addi v248_r0 c0_i32_215_r0
  let v654_r0 : BitVec 32 := Scalar.addi v653_r0 v253_r0
  let v655_r0 : BitVec 32 := Scalar.muli c16_i32_414_r0 v654_r0
  let c0_i32_417_r0 : BitVec 32 := 0#32
  ![v655_r0.toNat, 0]
def k1_off11 (arg8_r0 : BitVec 32) : Fin 1 → Nat :=
  let c2_i32_405_r0 : BitVec 32 := 2#32
  let v635_r0 : BitVec 32 := Scalar.remui arg8_r0 c2_i32_405_r0
  ![v635_r0.toNat]
def k1_off12 (arg7_r0 : BitVec 32) : Fin 4 → Nat :=
  let c2_i32_423_r0 : BitVec 32 := 2#32
  let v669_r0 : BitVec 32 := Scalar.remui arg7_r0 c2_i32_423_r0
  let c0_i32_424_r0 : BitVec 32 := 0#32
  let c0_i32_425_r0 : BitVec 32 := 0#32
  let c0_i32_426_r0 : BitVec 32 := 0#32
  ![v669_r0.toNat, 0, 0, 0]
def k1_cond3 (i : grid1.Coords) (k1_t1 : Fin k1_t1_loop.trips) (arg13_r0 : BitVec 32) (arg14_r0 : BitVec 32) : BitVec 1 :=
  let c96_i32_238_r0 : BitVec 32 := 96#32
  let c0_i32_186_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v224_r0 : BitVec 32 := Scalar.addi c0_i32_186_r0 v4
  let c8_i32_231_r0 : BitVec 32 := 8#32
  let c0_i32_232_r0 : BitVec 32 := 0#32
  let v269_r0 : BitVec 1 := Scalar.cmpi .eq c8_i32_231_r0 c0_i32_232_r0
  let c1_i32_233_r0 : BitVec 32 := 1#32
  let v270_r0 : BitVec 32 := Scalar.select v269_r0 c1_i32_233_r0 c8_i32_231_r0
  let v271_r0 : BitVec 32 := Scalar.remsi v224_r0 v270_r0
  let c0_i32_235_r0 : BitVec 32 := 0#32
  let v273_r0 : BitVec 1 := Scalar.cmpi .slt v271_r0 c0_i32_235_r0
  let c0_i32_236_r0 : BitVec 32 := 0#32
  let v274_r0 : BitVec 1 := Scalar.cmpi .slt v270_r0 c0_i32_236_r0
  let v275_r0 : BitVec 1 := Scalar.xori v273_r0 v274_r0
  let c0_i32_234_r0 : BitVec 32 := 0#32
  let v272_r0 : BitVec 1 := Scalar.cmpi .ne v271_r0 c0_i32_234_r0
  let v276_r0 : BitVec 1 := Scalar.andi v275_r0 v272_r0
  let v277_r0 : BitVec 32 := Scalar.addi v271_r0 v270_r0
  let v278_r0 : BitVec 32 := Scalar.select v276_r0 v277_r0 v271_r0
  let c4_i32_237_r0 : BitVec 32 := 4#32
  let v279_r0 : BitVec 32 := Scalar.muli v278_r0 c4_i32_237_r0
  let v280_r0 : BitVec 32 := Scalar.addi c96_i32_238_r0 v279_r0
  let c0_i32_188_r0 : BitVec 32 := 0#32
  let v226_r0 : BitVec 32 := Scalar.addi arg14_r0 c0_i32_188_r0
  let v281_r0 : BitVec 32 := Scalar.addi v280_r0 v226_r0
  let c96_i32_330_r0 : BitVec 32 := 96#32
  let c0_i32_200_r0 : BitVec 32 := 0#32
  let v238_r0 : BitVec 32 := Scalar.addi c0_i32_200_r0 v4
  let c8_i32_323_r0 : BitVec 32 := 8#32
  let c0_i32_324_r0 : BitVec 32 := 0#32
  let v461_r0 : BitVec 1 := Scalar.cmpi .eq c8_i32_323_r0 c0_i32_324_r0
  let c1_i32_325_r0 : BitVec 32 := 1#32
  let v462_r0 : BitVec 32 := Scalar.select v461_r0 c1_i32_325_r0 c8_i32_323_r0
  let v463_r0 : BitVec 32 := Scalar.remsi v238_r0 v462_r0
  let c0_i32_327_r0 : BitVec 32 := 0#32
  let v465_r0 : BitVec 1 := Scalar.cmpi .slt v463_r0 c0_i32_327_r0
  let c0_i32_328_r0 : BitVec 32 := 0#32
  let v466_r0 : BitVec 1 := Scalar.cmpi .slt v462_r0 c0_i32_328_r0
  let v467_r0 : BitVec 1 := Scalar.xori v465_r0 v466_r0
  let c0_i32_326_r0 : BitVec 32 := 0#32
  let v464_r0 : BitVec 1 := Scalar.cmpi .ne v463_r0 c0_i32_326_r0
  let v468_r0 : BitVec 1 := Scalar.andi v467_r0 v464_r0
  let v469_r0 : BitVec 32 := Scalar.addi v463_r0 v462_r0
  let v470_r0 : BitVec 32 := Scalar.select v468_r0 v469_r0 v463_r0
  let c4_i32_329_r0 : BitVec 32 := 4#32
  let v471_r0 : BitVec 32 := Scalar.muli v470_r0 c4_i32_329_r0
  let v472_r0 : BitVec 32 := Scalar.addi c96_i32_330_r0 v471_r0
  let true_190_r0 : BitVec 1 := 1#1
  let c1_i32_189_r0 : BitVec 32 := 1#32
  let v227_r0 : BitVec 32 := Scalar.subi arg14_r0 c1_i32_189_r0
  let v228_r0 : BitVec 32 := Scalar.select true_190_r0 v227_r0 arg14_r0
  let c_m1_i32_191_r0 : BitVec 32 := 4294967295#32
  let v229_r0 : BitVec 1 := Scalar.cmpi .eq v228_r0 c_m1_i32_191_r0
  let c3_i32_192_r0 : BitVec 32 := 3#32
  let v230_r0 : BitVec 32 := Scalar.select v229_r0 c3_i32_192_r0 v228_r0
  let c0_i32_202_r0 : BitVec 32 := 0#32
  let v240_r0 : BitVec 32 := Scalar.addi v230_r0 c0_i32_202_r0
  let v473_r0 : BitVec 32 := Scalar.addi v472_r0 v240_r0
  let v493_r0 : BitVec 1 := Scalar.cmpi .ne v281_r0 v473_r0
  let c0_i32_240_r0 : BitVec 32 := 0#32
  let v283_r0 : BitVec 1 := Scalar.cmpi .sgt v224_r0 c0_i32_240_r0
  let v284_r0 : BitVec 32 := Scalar.extui v283_r0
  let c0_i32_241_r0 : BitVec 32 := 0#32
  let v285_r0 : BitVec 1 := Scalar.cmpi .slt v224_r0 c0_i32_241_r0
  let v286_r0 : BitVec 32 := Scalar.extui v285_r0
  let v287_r0 : BitVec 32 := Scalar.subi v284_r0 v286_r0
  let c8_i32_239_r0 : BitVec 32 := 8#32
  let c0_i32_242_r0 : BitVec 32 := 0#32
  let v288_r0 : BitVec 1 := Scalar.cmpi .sgt c8_i32_239_r0 c0_i32_242_r0
  let v289_r0 : BitVec 32 := Scalar.extui v288_r0
  let c0_i32_243_r0 : BitVec 32 := 0#32
  let v290_r0 : BitVec 1 := Scalar.cmpi .slt c8_i32_239_r0 c0_i32_243_r0
  let v291_r0 : BitVec 32 := Scalar.extui v290_r0
  let v292_r0 : BitVec 32 := Scalar.subi v289_r0 v291_r0
  let v293_r0 : BitVec 1 := Scalar.cmpi .ne v287_r0 v292_r0
  let v294_r0 : BitVec 32 := Scalar.remsi v224_r0 c8_i32_239_r0
  let c0_i32_244_r0 : BitVec 32 := 0#32
  let v295_r0 : BitVec 1 := Scalar.cmpi .ne v294_r0 c0_i32_244_r0
  let v296_r0 : BitVec 1 := Scalar.andi v293_r0 v295_r0
  let v282_r0 : BitVec 32 := Scalar.divsi v224_r0 c8_i32_239_r0
  let c1_i32_245_r0 : BitVec 32 := 1#32
  let v297_r0 : BitVec 32 := Scalar.subi v282_r0 c1_i32_245_r0
  let v298_r0 : BitVec 32 := Scalar.select v296_r0 v297_r0 v282_r0
  let c9_i32_246_r0 : BitVec 32 := 9#32
  let v299_r0 : BitVec 32 := Scalar.muli v298_r0 c9_i32_246_r0
  let c0_i32_187_r0 : BitVec 32 := 0#32
  let v225_r0 : BitVec 32 := Scalar.addi arg13_r0 c0_i32_187_r0
  let v300_r0 : BitVec 32 := Scalar.addi v299_r0 v225_r0
  let c0_i32_332_r0 : BitVec 32 := 0#32
  let v475_r0 : BitVec 1 := Scalar.cmpi .sgt v238_r0 c0_i32_332_r0
  let v476_r0 : BitVec 32 := Scalar.extui v475_r0
  let c0_i32_333_r0 : BitVec 32 := 0#32
  let v477_r0 : BitVec 1 := Scalar.cmpi .slt v238_r0 c0_i32_333_r0
  let v478_r0 : BitVec 32 := Scalar.extui v477_r0
  let v479_r0 : BitVec 32 := Scalar.subi v476_r0 v478_r0
  let c8_i32_331_r0 : BitVec 32 := 8#32
  let c0_i32_334_r0 : BitVec 32 := 0#32
  let v480_r0 : BitVec 1 := Scalar.cmpi .sgt c8_i32_331_r0 c0_i32_334_r0
  let v481_r0 : BitVec 32 := Scalar.extui v480_r0
  let c0_i32_335_r0 : BitVec 32 := 0#32
  let v482_r0 : BitVec 1 := Scalar.cmpi .slt c8_i32_331_r0 c0_i32_335_r0
  let v483_r0 : BitVec 32 := Scalar.extui v482_r0
  let v484_r0 : BitVec 32 := Scalar.subi v481_r0 v483_r0
  let v485_r0 : BitVec 1 := Scalar.cmpi .ne v479_r0 v484_r0
  let v486_r0 : BitVec 32 := Scalar.remsi v238_r0 c8_i32_331_r0
  let c0_i32_336_r0 : BitVec 32 := 0#32
  let v487_r0 : BitVec 1 := Scalar.cmpi .ne v486_r0 c0_i32_336_r0
  let v488_r0 : BitVec 1 := Scalar.andi v485_r0 v487_r0
  let v474_r0 : BitVec 32 := Scalar.divsi v238_r0 c8_i32_331_r0
  let c1_i32_337_r0 : BitVec 32 := 1#32
  let v489_r0 : BitVec 32 := Scalar.subi v474_r0 c1_i32_337_r0
  let v490_r0 : BitVec 32 := Scalar.select v488_r0 v489_r0 v474_r0
  let c9_i32_338_r0 : BitVec 32 := 9#32
  let v491_r0 : BitVec 32 := Scalar.muli v490_r0 c9_i32_338_r0
  let c1_i32_193_r0 : BitVec 32 := 1#32
  let v231_r0 : BitVec 32 := Scalar.subi arg13_r0 c1_i32_193_r0
  let v232_r0 : BitVec 32 := Scalar.select v229_r0 v231_r0 arg13_r0
  let c_m1_i32_194_r0 : BitVec 32 := 4294967295#32
  let v233_r0 : BitVec 1 := Scalar.cmpi .eq v232_r0 c_m1_i32_194_r0
  let c8_i32_195_r0 : BitVec 32 := 8#32
  let v234_r0 : BitVec 32 := Scalar.select v233_r0 c8_i32_195_r0 v232_r0
  let c0_i32_201_r0 : BitVec 32 := 0#32
  let v239_r0 : BitVec 32 := Scalar.addi v234_r0 c0_i32_201_r0
  let v492_r0 : BitVec 32 := Scalar.addi v491_r0 v239_r0
  let v494_r0 : BitVec 1 := Scalar.cmpi .ne v300_r0 v492_r0
  let v495_r0 : BitVec 1 := Scalar.ori v493_r0 v494_r0
  let c0_i32_101_r0 : BitVec 32 := 0#32
  let c1_i32_102_r0 : BitVec 32 := 1#32
  let arg5_r0 : BitVec 32 := Scf.iv c0_i32_101_r0 c1_i32_102_r0 k1_t1
  let c0_i32_185_r0 : BitVec 32 := 0#32
  let v222_r0 : BitVec 1 := Scalar.cmpi .eq arg5_r0 c0_i32_185_r0
  let v496_r0 : BitVec 1 := Scalar.ori v495_r0 v222_r0
  let c0_i32_339_r0 : BitVec 32 := 0#32
  let v497_r0 : BitVec 1 := Scalar.cmpi .sge arg5_r0 c0_i32_339_r0
  let v498_r0 : BitVec 1 := Scalar.andi v496_r0 v497_r0
  let v499_r0 : BitVec 32 := Scalar.extui v498_r0
  let c0_i32_340_r0 : BitVec 32 := 0#32
  let v500_r0 : BitVec 1 := Scalar.cmpi .ne v499_r0 c0_i32_340_r0
  v500_r0

def k1_off13 (i : grid1.Coords) (arg13_r0 : BitVec 32) (arg14_r0 : BitVec 32) : Fin 3 → Nat :=
  let c1_i32_421_r0 : BitVec 32 := 1#32
  let c96_i32_412_r0 : BitVec 32 := 96#32
  let c0_i32_186_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v224_r0 : BitVec 32 := Scalar.addi c0_i32_186_r0 v4
  let c8_i32_405_r0 : BitVec 32 := 8#32
  let c0_i32_406_r0 : BitVec 32 := 0#32
  let v635_r0 : BitVec 1 := Scalar.cmpi .eq c8_i32_405_r0 c0_i32_406_r0
  let c1_i32_407_r0 : BitVec 32 := 1#32
  let v636_r0 : BitVec 32 := Scalar.select v635_r0 c1_i32_407_r0 c8_i32_405_r0
  let v637_r0 : BitVec 32 := Scalar.remsi v224_r0 v636_r0
  let c0_i32_409_r0 : BitVec 32 := 0#32
  let v639_r0 : BitVec 1 := Scalar.cmpi .slt v637_r0 c0_i32_409_r0
  let c0_i32_410_r0 : BitVec 32 := 0#32
  let v640_r0 : BitVec 1 := Scalar.cmpi .slt v636_r0 c0_i32_410_r0
  let v641_r0 : BitVec 1 := Scalar.xori v639_r0 v640_r0
  let c0_i32_408_r0 : BitVec 32 := 0#32
  let v638_r0 : BitVec 1 := Scalar.cmpi .ne v637_r0 c0_i32_408_r0
  let v642_r0 : BitVec 1 := Scalar.andi v641_r0 v638_r0
  let v643_r0 : BitVec 32 := Scalar.addi v637_r0 v636_r0
  let v644_r0 : BitVec 32 := Scalar.select v642_r0 v643_r0 v637_r0
  let c4_i32_411_r0 : BitVec 32 := 4#32
  let v645_r0 : BitVec 32 := Scalar.muli v644_r0 c4_i32_411_r0
  let v646_r0 : BitVec 32 := Scalar.addi c96_i32_412_r0 v645_r0
  let c0_i32_188_r0 : BitVec 32 := 0#32
  let v226_r0 : BitVec 32 := Scalar.addi arg14_r0 c0_i32_188_r0
  let v647_r0 : BitVec 32 := Scalar.addi v646_r0 v226_r0
  let v667_r0 : BitVec 32 := Scalar.muli c1_i32_421_r0 v647_r0
  let c16_i32_422_r0 : BitVec 32 := 16#32
  let c0_i32_414_r0 : BitVec 32 := 0#32
  let v649_r0 : BitVec 1 := Scalar.cmpi .sgt v224_r0 c0_i32_414_r0
  let v650_r0 : BitVec 32 := Scalar.extui v649_r0
  let c0_i32_415_r0 : BitVec 32 := 0#32
  let v651_r0 : BitVec 1 := Scalar.cmpi .slt v224_r0 c0_i32_415_r0
  let v652_r0 : BitVec 32 := Scalar.extui v651_r0
  let v653_r0 : BitVec 32 := Scalar.subi v650_r0 v652_r0
  let c8_i32_413_r0 : BitVec 32 := 8#32
  let c0_i32_416_r0 : BitVec 32 := 0#32
  let v654_r0 : BitVec 1 := Scalar.cmpi .sgt c8_i32_413_r0 c0_i32_416_r0
  let v655_r0 : BitVec 32 := Scalar.extui v654_r0
  let c0_i32_417_r0 : BitVec 32 := 0#32
  let v656_r0 : BitVec 1 := Scalar.cmpi .slt c8_i32_413_r0 c0_i32_417_r0
  let v657_r0 : BitVec 32 := Scalar.extui v656_r0
  let v658_r0 : BitVec 32 := Scalar.subi v655_r0 v657_r0
  let v659_r0 : BitVec 1 := Scalar.cmpi .ne v653_r0 v658_r0
  let v660_r0 : BitVec 32 := Scalar.remsi v224_r0 c8_i32_413_r0
  let c0_i32_418_r0 : BitVec 32 := 0#32
  let v661_r0 : BitVec 1 := Scalar.cmpi .ne v660_r0 c0_i32_418_r0
  let v662_r0 : BitVec 1 := Scalar.andi v659_r0 v661_r0
  let v648_r0 : BitVec 32 := Scalar.divsi v224_r0 c8_i32_413_r0
  let c1_i32_419_r0 : BitVec 32 := 1#32
  let v663_r0 : BitVec 32 := Scalar.subi v648_r0 c1_i32_419_r0
  let v664_r0 : BitVec 32 := Scalar.select v662_r0 v663_r0 v648_r0
  let c9_i32_420_r0 : BitVec 32 := 9#32
  let v665_r0 : BitVec 32 := Scalar.muli v664_r0 c9_i32_420_r0
  let c0_i32_187_r0 : BitVec 32 := 0#32
  let v225_r0 : BitVec 32 := Scalar.addi arg13_r0 c0_i32_187_r0
  let v666_r0 : BitVec 32 := Scalar.addi v665_r0 v225_r0
  let v668_r0 : BitVec 32 := Scalar.muli c16_i32_422_r0 v666_r0
  let c0_i32_427_r0 : BitVec 32 := 0#32
  ![v667_r0.toNat, v668_r0.toNat, 0]
def k1_off14 (arg7_r0 : BitVec 32) : Fin 1 → Nat :=
  let c2_i32_423_r0 : BitVec 32 := 2#32
  let v669_r0 : BitVec 32 := Scalar.remui arg7_r0 c2_i32_423_r0
  ![v669_r0.toNat]
def k1_off15 (arg9_r0 : BitVec 32) : Fin 3 → Nat :=
  let c2_i32_414_r0 : BitVec 32 := 2#32
  let v655_r0 : BitVec 32 := Scalar.remui arg9_r0 c2_i32_414_r0
  let c0_i32_415_r0 : BitVec 32 := 0#32
  let c0_i32_416_r0 : BitVec 32 := 0#32
  ![v655_r0.toNat, 0, 0]
def k1_cond4 (i : grid1.Coords) (k1_t1 : Fin k1_t1_loop.trips) (arg13_r0 : BitVec 32) (arg14_r0 : BitVec 32) : BitVec 1 :=
  let c0_i32_186_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v224_r0 : BitVec 32 := Scalar.addi c0_i32_186_r0 v4
  let c0_i32_270_r0 : BitVec 32 := 0#32
  let v346_r0 : BitVec 1 := Scalar.cmpi .sgt v224_r0 c0_i32_270_r0
  let v347_r0 : BitVec 32 := Scalar.extui v346_r0
  let c0_i32_271_r0 : BitVec 32 := 0#32
  let v348_r0 : BitVec 1 := Scalar.cmpi .slt v224_r0 c0_i32_271_r0
  let v349_r0 : BitVec 32 := Scalar.extui v348_r0
  let v350_r0 : BitVec 32 := Scalar.subi v347_r0 v349_r0
  let c8_i32_269_r0 : BitVec 32 := 8#32
  let c0_i32_272_r0 : BitVec 32 := 0#32
  let v351_r0 : BitVec 1 := Scalar.cmpi .sgt c8_i32_269_r0 c0_i32_272_r0
  let v352_r0 : BitVec 32 := Scalar.extui v351_r0
  let c0_i32_273_r0 : BitVec 32 := 0#32
  let v353_r0 : BitVec 1 := Scalar.cmpi .slt c8_i32_269_r0 c0_i32_273_r0
  let v354_r0 : BitVec 32 := Scalar.extui v353_r0
  let v355_r0 : BitVec 32 := Scalar.subi v352_r0 v354_r0
  let v356_r0 : BitVec 1 := Scalar.cmpi .ne v350_r0 v355_r0
  let v357_r0 : BitVec 32 := Scalar.remsi v224_r0 c8_i32_269_r0
  let c0_i32_274_r0 : BitVec 32 := 0#32
  let v358_r0 : BitVec 1 := Scalar.cmpi .ne v357_r0 c0_i32_274_r0
  let v359_r0 : BitVec 1 := Scalar.andi v356_r0 v358_r0
  let v345_r0 : BitVec 32 := Scalar.divsi v224_r0 c8_i32_269_r0
  let c1_i32_275_r0 : BitVec 32 := 1#32
  let v360_r0 : BitVec 32 := Scalar.subi v345_r0 c1_i32_275_r0
  let v361_r0 : BitVec 32 := Scalar.select v359_r0 v360_r0 v345_r0
  let c9_i32_276_r0 : BitVec 32 := 9#32
  let v362_r0 : BitVec 32 := Scalar.muli v361_r0 c9_i32_276_r0
  let c0_i32_187_r0 : BitVec 32 := 0#32
  let v225_r0 : BitVec 32 := Scalar.addi arg13_r0 c0_i32_187_r0
  let v363_r0 : BitVec 32 := Scalar.addi v362_r0 v225_r0
  let c0_i32_200_r0 : BitVec 32 := 0#32
  let v238_r0 : BitVec 32 := Scalar.addi c0_i32_200_r0 v4
  let c0_i32_342_r0 : BitVec 32 := 0#32
  let v502_r0 : BitVec 1 := Scalar.cmpi .sgt v238_r0 c0_i32_342_r0
  let v503_r0 : BitVec 32 := Scalar.extui v502_r0
  let c0_i32_343_r0 : BitVec 32 := 0#32
  let v504_r0 : BitVec 1 := Scalar.cmpi .slt v238_r0 c0_i32_343_r0
  let v505_r0 : BitVec 32 := Scalar.extui v504_r0
  let v506_r0 : BitVec 32 := Scalar.subi v503_r0 v505_r0
  let c8_i32_341_r0 : BitVec 32 := 8#32
  let c0_i32_344_r0 : BitVec 32 := 0#32
  let v507_r0 : BitVec 1 := Scalar.cmpi .sgt c8_i32_341_r0 c0_i32_344_r0
  let v508_r0 : BitVec 32 := Scalar.extui v507_r0
  let c0_i32_345_r0 : BitVec 32 := 0#32
  let v509_r0 : BitVec 1 := Scalar.cmpi .slt c8_i32_341_r0 c0_i32_345_r0
  let v510_r0 : BitVec 32 := Scalar.extui v509_r0
  let v511_r0 : BitVec 32 := Scalar.subi v508_r0 v510_r0
  let v512_r0 : BitVec 1 := Scalar.cmpi .ne v506_r0 v511_r0
  let v513_r0 : BitVec 32 := Scalar.remsi v238_r0 c8_i32_341_r0
  let c0_i32_346_r0 : BitVec 32 := 0#32
  let v514_r0 : BitVec 1 := Scalar.cmpi .ne v513_r0 c0_i32_346_r0
  let v515_r0 : BitVec 1 := Scalar.andi v512_r0 v514_r0
  let v501_r0 : BitVec 32 := Scalar.divsi v238_r0 c8_i32_341_r0
  let c1_i32_347_r0 : BitVec 32 := 1#32
  let v516_r0 : BitVec 32 := Scalar.subi v501_r0 c1_i32_347_r0
  let v517_r0 : BitVec 32 := Scalar.select v515_r0 v516_r0 v501_r0
  let c9_i32_348_r0 : BitVec 32 := 9#32
  let v518_r0 : BitVec 32 := Scalar.muli v517_r0 c9_i32_348_r0
  let true_190_r0 : BitVec 1 := 1#1
  let c1_i32_189_r0 : BitVec 32 := 1#32
  let v227_r0 : BitVec 32 := Scalar.subi arg14_r0 c1_i32_189_r0
  let v228_r0 : BitVec 32 := Scalar.select true_190_r0 v227_r0 arg14_r0
  let c_m1_i32_191_r0 : BitVec 32 := 4294967295#32
  let v229_r0 : BitVec 1 := Scalar.cmpi .eq v228_r0 c_m1_i32_191_r0
  let c1_i32_193_r0 : BitVec 32 := 1#32
  let v231_r0 : BitVec 32 := Scalar.subi arg13_r0 c1_i32_193_r0
  let v232_r0 : BitVec 32 := Scalar.select v229_r0 v231_r0 arg13_r0
  let c_m1_i32_194_r0 : BitVec 32 := 4294967295#32
  let v233_r0 : BitVec 1 := Scalar.cmpi .eq v232_r0 c_m1_i32_194_r0
  let c8_i32_195_r0 : BitVec 32 := 8#32
  let v234_r0 : BitVec 32 := Scalar.select v233_r0 c8_i32_195_r0 v232_r0
  let c0_i32_201_r0 : BitVec 32 := 0#32
  let v239_r0 : BitVec 32 := Scalar.addi v234_r0 c0_i32_201_r0
  let v519_r0 : BitVec 32 := Scalar.addi v518_r0 v239_r0
  let v520_r0 : BitVec 1 := Scalar.cmpi .ne v363_r0 v519_r0
  let c0_i32_101_r0 : BitVec 32 := 0#32
  let c1_i32_102_r0 : BitVec 32 := 1#32
  let arg5_r0 : BitVec 32 := Scf.iv c0_i32_101_r0 c1_i32_102_r0 k1_t1
  let c0_i32_185_r0 : BitVec 32 := 0#32
  let v222_r0 : BitVec 1 := Scalar.cmpi .eq arg5_r0 c0_i32_185_r0
  let v521_r0 : BitVec 1 := Scalar.ori v520_r0 v222_r0
  let c0_i32_349_r0 : BitVec 32 := 0#32
  let v522_r0 : BitVec 1 := Scalar.cmpi .sge arg5_r0 c0_i32_349_r0
  let v523_r0 : BitVec 1 := Scalar.andi v521_r0 v522_r0
  let v524_r0 : BitVec 32 := Scalar.extui v523_r0
  let c0_i32_350_r0 : BitVec 32 := 0#32
  let v525_r0 : BitVec 1 := Scalar.cmpi .ne v524_r0 c0_i32_350_r0
  v525_r0

def k1_off16 (i : grid1.Coords) (arg13_r0 : BitVec 32) : Fin 2 → Nat :=
  let c16_i32_413_r0 : BitVec 32 := 16#32
  let c0_i32_186_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v224_r0 : BitVec 32 := Scalar.addi c0_i32_186_r0 v4
  let c0_i32_406_r0 : BitVec 32 := 0#32
  let v636_r0 : BitVec 1 := Scalar.cmpi .sgt v224_r0 c0_i32_406_r0
  let v637_r0 : BitVec 32 := Scalar.extui v636_r0
  let c0_i32_407_r0 : BitVec 32 := 0#32
  let v638_r0 : BitVec 1 := Scalar.cmpi .slt v224_r0 c0_i32_407_r0
  let v639_r0 : BitVec 32 := Scalar.extui v638_r0
  let v640_r0 : BitVec 32 := Scalar.subi v637_r0 v639_r0
  let c8_i32_405_r0 : BitVec 32 := 8#32
  let c0_i32_408_r0 : BitVec 32 := 0#32
  let v641_r0 : BitVec 1 := Scalar.cmpi .sgt c8_i32_405_r0 c0_i32_408_r0
  let v642_r0 : BitVec 32 := Scalar.extui v641_r0
  let c0_i32_409_r0 : BitVec 32 := 0#32
  let v643_r0 : BitVec 1 := Scalar.cmpi .slt c8_i32_405_r0 c0_i32_409_r0
  let v644_r0 : BitVec 32 := Scalar.extui v643_r0
  let v645_r0 : BitVec 32 := Scalar.subi v642_r0 v644_r0
  let v646_r0 : BitVec 1 := Scalar.cmpi .ne v640_r0 v645_r0
  let v647_r0 : BitVec 32 := Scalar.remsi v224_r0 c8_i32_405_r0
  let c0_i32_410_r0 : BitVec 32 := 0#32
  let v648_r0 : BitVec 1 := Scalar.cmpi .ne v647_r0 c0_i32_410_r0
  let v649_r0 : BitVec 1 := Scalar.andi v646_r0 v648_r0
  let v635_r0 : BitVec 32 := Scalar.divsi v224_r0 c8_i32_405_r0
  let c1_i32_411_r0 : BitVec 32 := 1#32
  let v650_r0 : BitVec 32 := Scalar.subi v635_r0 c1_i32_411_r0
  let v651_r0 : BitVec 32 := Scalar.select v649_r0 v650_r0 v635_r0
  let c9_i32_412_r0 : BitVec 32 := 9#32
  let v652_r0 : BitVec 32 := Scalar.muli v651_r0 c9_i32_412_r0
  let c0_i32_187_r0 : BitVec 32 := 0#32
  let v225_r0 : BitVec 32 := Scalar.addi arg13_r0 c0_i32_187_r0
  let v653_r0 : BitVec 32 := Scalar.addi v652_r0 v225_r0
  let v654_r0 : BitVec 32 := Scalar.muli c16_i32_413_r0 v653_r0
  let c0_i32_417_r0 : BitVec 32 := 0#32
  ![v654_r0.toNat, 0]
def k1_off17 (arg9_r0 : BitVec 32) : Fin 1 → Nat :=
  let c2_i32_414_r0 : BitVec 32 := 2#32
  let v655_r0 : BitVec 32 := Scalar.remui arg9_r0 c2_i32_414_r0
  ![v655_r0.toNat]
@[reducible] def k1_t2_loop : Scf.Loop 32 :=
  let c0_i32_371_r0 : BitVec 32 := 0#32
  let c16_i32_372_r0 : BitVec 32 := 16#32
  let v568_r0 : BitVec 32 := Scalar.addi c0_i32_371_r0 c16_i32_372_r0
  let c1_i32_373_r0 : BitVec 32 := 1#32
  ⟨c0_i32_371_r0, v568_r0, c1_i32_373_r0⟩
@[reducible] def k1_t3_loop : Scf.Loop 32 :=
  let c0_i32_407_r0 : BitVec 32 := 0#32
  let c48_i32_r0 : BitVec 32 := 48#32
  let v637_r0 : BitVec 32 := Scalar.addi c0_i32_407_r0 c48_i32_r0
  let c1_i32_408_r0 : BitVec 32 := 1#32
  ⟨c0_i32_407_r0, v637_r0, c1_i32_408_r0⟩
def k1_off18 (arg7_r0 : BitVec 32) : Fin 4 → Nat :=
  let c2_i32_368_r0 : BitVec 32 := 2#32
  let v565_r0 : BitVec 32 := Scalar.remui arg7_r0 c2_i32_368_r0
  let c0_i32_413_r0 : BitVec 32 := 0#32
  let c0_i32_414_r0 : BitVec 32 := 0#32
  let c0_i32_415_r0 : BitVec 32 := 0#32
  ![v565_r0.toNat, 0, 0, 0]

def k1_chk2 (arg7_r0 : BitVec 32) : Prop :=
  (∀ a, (k1_off18 arg7_r0) a + S1x1x16x768.size a ≤ S2x1x16x768.size a)
theorem k1_off18_inb : ∀ (arg7_r0 : BitVec 32) (k1_hw2 : k1_chk2 arg7_r0), ∀ a, (k1_off18 arg7_r0) a + S1x1x16x768.size a ≤ S2x1x16x768.size a := fun arg7_r0 k1_hw2 => k1_hw2

def k1_off19 (k1_t2 : Fin k1_t2_loop.trips) (k1_t3 : Fin k1_t3_loop.trips) : Fin 3 → Nat :=
  let c0_i32_412_r0 : BitVec 32 := 0#32
  let v642_r0 : Index := Scalar.indexCast c0_i32_412_r0
  let c0_i32_406_r0 : BitVec 32 := 0#32
  let c0_i32_371_r0 : BitVec 32 := 0#32
  let c1_i32_373_r0 : BitVec 32 := 1#32
  let arg15_r0 : BitVec 32 := Scf.iv c0_i32_371_r0 c1_i32_373_r0 k1_t2
  let c1_i32_405_r0 : BitVec 32 := 1#32
  let v635_r0 : BitVec 32 := Scalar.muli arg15_r0 c1_i32_405_r0
  let v636_r0 : BitVec 32 := Scalar.addi c0_i32_406_r0 v635_r0
  let v643_r0 : Index := Scalar.indexCast v636_r0
  let c0_i32_411_r0 : BitVec 32 := 0#32
  let c0_i32_407_r0 : BitVec 32 := 0#32
  let c1_i32_408_r0 : BitVec 32 := 1#32
  let arg16_r0 : BitVec 32 := Scf.iv c0_i32_407_r0 c1_i32_408_r0 k1_t3
  let c16_i32_410_r0 : BitVec 32 := 16#32
  let v638_r0 : BitVec 32 := Scalar.muli arg16_r0 c16_i32_410_r0
  let v639_r0 : BitVec 32 := Scalar.addi c0_i32_411_r0 v638_r0
  let v644_r0 : Index := Scalar.indexCast v639_r0
  ![0, v643_r0.toNat, v644_r0.toNat]
def k1_off20 (arg9_r0 : BitVec 32) : Fin 3 → Nat :=
  let c2_i32_369_r0 : BitVec 32 := 2#32
  let v566_r0 : BitVec 32 := Scalar.remui arg9_r0 c2_i32_369_r0
  let c0_i32_416_r0 : BitVec 32 := 0#32
  let c0_i32_417_r0 : BitVec 32 := 0#32
  ![v566_r0.toNat, 0, 0]

def k1_chk3 (arg9_r0 : BitVec 32) : Prop :=
  (∀ a, (k1_off20 arg9_r0) a + S1x16x768.size a ≤ S2x16x768.size a)
theorem k1_off20_inb : ∀ (arg9_r0 : BitVec 32) (k1_hw3 : k1_chk3 arg9_r0), ∀ a, (k1_off20 arg9_r0) a + S1x16x768.size a ≤ S2x16x768.size a := fun arg9_r0 k1_hw3 => k1_hw3

def k1_off21 (k1_t2 : Fin k1_t2_loop.trips) (k1_t3 : Fin k1_t3_loop.trips) : Fin 2 → Nat :=
  let c0_i32_406_r0 : BitVec 32 := 0#32
  let c0_i32_371_r0 : BitVec 32 := 0#32
  let c1_i32_373_r0 : BitVec 32 := 1#32
  let arg15_r0 : BitVec 32 := Scf.iv c0_i32_371_r0 c1_i32_373_r0 k1_t2
  let c1_i32_405_r0 : BitVec 32 := 1#32
  let v635_r0 : BitVec 32 := Scalar.muli arg15_r0 c1_i32_405_r0
  let v636_r0 : BitVec 32 := Scalar.addi c0_i32_406_r0 v635_r0
  let v649_r0 : Index := Scalar.indexCast v636_r0
  let c0_i32_411_r0 : BitVec 32 := 0#32
  let c0_i32_407_r0 : BitVec 32 := 0#32
  let c1_i32_408_r0 : BitVec 32 := 1#32
  let arg16_r0 : BitVec 32 := Scf.iv c0_i32_407_r0 c1_i32_408_r0 k1_t3
  let c16_i32_410_r0 : BitVec 32 := 16#32
  let v638_r0 : BitVec 32 := Scalar.muli arg16_r0 c16_i32_410_r0
  let v639_r0 : BitVec 32 := Scalar.addi c0_i32_411_r0 v638_r0
  let v650_r0 : Index := Scalar.indexCast v639_r0
  ![v649_r0.toNat, v650_r0.toNat]
def k1_off22 (arg10_r0 : BitVec 32) : Fin 4 → Nat :=
  let c2_i32_370_r0 : BitVec 32 := 2#32
  let v567_r0 : BitVec 32 := Scalar.remui arg10_r0 c2_i32_370_r0
  let c0_i32_419_r0 : BitVec 32 := 0#32
  let c0_i32_420_r0 : BitVec 32 := 0#32
  let c0_i32_421_r0 : BitVec 32 := 0#32
  ![v567_r0.toNat, 0, 0, 0]

def k1_chk4 (arg10_r0 : BitVec 32) : Prop :=
  (∀ a, (k1_off22 arg10_r0) a + S1x1x16x768.size a ≤ S2x1x16x768.size a)
theorem k1_off22_inb : ∀ (arg10_r0 : BitVec 32) (k1_hw4 : k1_chk4 arg10_r0), ∀ a, (k1_off22 arg10_r0) a + S1x1x16x768.size a ≤ S2x1x16x768.size a := fun arg10_r0 k1_hw4 => k1_hw4

def k1_off23 (k1_t2 : Fin k1_t2_loop.trips) (k1_t3 : Fin k1_t3_loop.trips) : Fin 3 → Nat :=
  let c0_i32_418_r0 : BitVec 32 := 0#32
  let v656_r0 : Index := Scalar.indexCast c0_i32_418_r0
  let c0_i32_406_r0 : BitVec 32 := 0#32
  let c0_i32_371_r0 : BitVec 32 := 0#32
  let c1_i32_373_r0 : BitVec 32 := 1#32
  let arg15_r0 : BitVec 32 := Scf.iv c0_i32_371_r0 c1_i32_373_r0 k1_t2
  let c1_i32_405_r0 : BitVec 32 := 1#32
  let v635_r0 : BitVec 32 := Scalar.muli arg15_r0 c1_i32_405_r0
  let v636_r0 : BitVec 32 := Scalar.addi c0_i32_406_r0 v635_r0
  let v657_r0 : Index := Scalar.indexCast v636_r0
  let c0_i32_411_r0 : BitVec 32 := 0#32
  let c0_i32_407_r0 : BitVec 32 := 0#32
  let c1_i32_408_r0 : BitVec 32 := 1#32
  let arg16_r0 : BitVec 32 := Scf.iv c0_i32_407_r0 c1_i32_408_r0 k1_t3
  let c16_i32_410_r0 : BitVec 32 := 16#32
  let v638_r0 : BitVec 32 := Scalar.muli arg16_r0 c16_i32_410_r0
  let v639_r0 : BitVec 32 := Scalar.addi c0_i32_411_r0 v638_r0
  let v658_r0 : Index := Scalar.indexCast v639_r0
  ![0, v657_r0.toNat, v658_r0.toNat]
def k1_off24 (arg10_r0 : BitVec 32) : Fin 4 → Nat :=
  let c2_i32_405_r0 : BitVec 32 := 2#32
  let v635_r0 : BitVec 32 := Scalar.remui arg10_r0 c2_i32_405_r0
  let c0_i32_423_r0 : BitVec 32 := 0#32
  let c0_i32_424_r0 : BitVec 32 := 0#32
  let c0_i32_425_r0 : BitVec 32 := 0#32
  ![v635_r0.toNat, 0, 0, 0]
def k1_cond8 (i : grid1.Coords) (k1_t1 : Fin k1_t1_loop.trips) (arg13_r0 : BitVec 32) (arg14_r0 : BitVec 32) : BitVec 1 :=
  let c0_i32_186_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v224_r0 : BitVec 32 := Scalar.addi c0_i32_186_r0 v4
  let c8_i32_291_r0 : BitVec 32 := 8#32
  let c0_i32_292_r0 : BitVec 32 := 0#32
  let v393_r0 : BitVec 1 := Scalar.cmpi .eq c8_i32_291_r0 c0_i32_292_r0
  let c1_i32_293_r0 : BitVec 32 := 1#32
  let v394_r0 : BitVec 32 := Scalar.select v393_r0 c1_i32_293_r0 c8_i32_291_r0
  let v395_r0 : BitVec 32 := Scalar.remsi v224_r0 v394_r0
  let c0_i32_295_r0 : BitVec 32 := 0#32
  let v397_r0 : BitVec 1 := Scalar.cmpi .slt v395_r0 c0_i32_295_r0
  let c0_i32_296_r0 : BitVec 32 := 0#32
  let v398_r0 : BitVec 1 := Scalar.cmpi .slt v394_r0 c0_i32_296_r0
  let v399_r0 : BitVec 1 := Scalar.xori v397_r0 v398_r0
  let c0_i32_294_r0 : BitVec 32 := 0#32
  let v396_r0 : BitVec 1 := Scalar.cmpi .ne v395_r0 c0_i32_294_r0
  let v400_r0 : BitVec 1 := Scalar.andi v399_r0 v396_r0
  let v401_r0 : BitVec 32 := Scalar.addi v395_r0 v394_r0
  let v402_r0 : BitVec 32 := Scalar.select v400_r0 v401_r0 v395_r0
  let c4_i32_297_r0 : BitVec 32 := 4#32
  let v403_r0 : BitVec 32 := Scalar.muli v402_r0 c4_i32_297_r0
  let c0_i32_188_r0 : BitVec 32 := 0#32
  let v226_r0 : BitVec 32 := Scalar.addi arg14_r0 c0_i32_188_r0
  let v404_r0 : BitVec 32 := Scalar.addi v403_r0 v226_r0
  let c0_i32_214_r0 : BitVec 32 := 0#32
  let v252_r0 : BitVec 32 := Scalar.addi c0_i32_214_r0 v4
  let c8_i32_306_r0 : BitVec 32 := 8#32
  let c0_i32_307_r0 : BitVec 32 := 0#32
  let v424_r0 : BitVec 1 := Scalar.cmpi .eq c8_i32_306_r0 c0_i32_307_r0
  let c1_i32_308_r0 : BitVec 32 := 1#32
  let v425_r0 : BitVec 32 := Scalar.select v424_r0 c1_i32_308_r0 c8_i32_306_r0
  let v426_r0 : BitVec 32 := Scalar.remsi v252_r0 v425_r0
  let c0_i32_310_r0 : BitVec 32 := 0#32
  let v428_r0 : BitVec 1 := Scalar.cmpi .slt v426_r0 c0_i32_310_r0
  let c0_i32_311_r0 : BitVec 32 := 0#32
  let v429_r0 : BitVec 1 := Scalar.cmpi .slt v425_r0 c0_i32_311_r0
  let v430_r0 : BitVec 1 := Scalar.xori v428_r0 v429_r0
  let c0_i32_309_r0 : BitVec 32 := 0#32
  let v427_r0 : BitVec 1 := Scalar.cmpi .ne v426_r0 c0_i32_309_r0
  let v431_r0 : BitVec 1 := Scalar.andi v430_r0 v427_r0
  let v432_r0 : BitVec 32 := Scalar.addi v426_r0 v425_r0
  let v433_r0 : BitVec 32 := Scalar.select v431_r0 v432_r0 v426_r0
  let c4_i32_312_r0 : BitVec 32 := 4#32
  let v434_r0 : BitVec 32 := Scalar.muli v433_r0 c4_i32_312_r0
  let true_204_r0 : BitVec 1 := 1#1
  let c1_i32_203_r0 : BitVec 32 := 1#32
  let v241_r0 : BitVec 32 := Scalar.addi arg14_r0 c1_i32_203_r0
  let v242_r0 : BitVec 32 := Scalar.select true_204_r0 v241_r0 arg14_r0
  let c4_i32_205_r0 : BitVec 32 := 4#32
  let v243_r0 : BitVec 1 := Scalar.cmpi .eq v242_r0 c4_i32_205_r0
  let c0_i32_206_r0 : BitVec 32 := 0#32
  let v244_r0 : BitVec 32 := Scalar.select v243_r0 c0_i32_206_r0 v242_r0
  let c0_i32_216_r0 : BitVec 32 := 0#32
  let v254_r0 : BitVec 32 := Scalar.addi v244_r0 c0_i32_216_r0
  let v435_r0 : BitVec 32 := Scalar.addi v434_r0 v254_r0
  let v581_r0 : BitVec 1 := Scalar.cmpi .ne v404_r0 v435_r0
  let c0_i32_299_r0 : BitVec 32 := 0#32
  let v406_r0 : BitVec 1 := Scalar.cmpi .sgt v224_r0 c0_i32_299_r0
  let v407_r0 : BitVec 32 := Scalar.extui v406_r0
  let c0_i32_300_r0 : BitVec 32 := 0#32
  let v408_r0 : BitVec 1 := Scalar.cmpi .slt v224_r0 c0_i32_300_r0
  let v409_r0 : BitVec 32 := Scalar.extui v408_r0
  let v410_r0 : BitVec 32 := Scalar.subi v407_r0 v409_r0
  let c8_i32_298_r0 : BitVec 32 := 8#32
  let c0_i32_301_r0 : BitVec 32 := 0#32
  let v411_r0 : BitVec 1 := Scalar.cmpi .sgt c8_i32_298_r0 c0_i32_301_r0
  let v412_r0 : BitVec 32 := Scalar.extui v411_r0
  let c0_i32_302_r0 : BitVec 32 := 0#32
  let v413_r0 : BitVec 1 := Scalar.cmpi .slt c8_i32_298_r0 c0_i32_302_r0
  let v414_r0 : BitVec 32 := Scalar.extui v413_r0
  let v415_r0 : BitVec 32 := Scalar.subi v412_r0 v414_r0
  let v416_r0 : BitVec 1 := Scalar.cmpi .ne v410_r0 v415_r0
  let v417_r0 : BitVec 32 := Scalar.remsi v224_r0 c8_i32_298_r0
  let c0_i32_303_r0 : BitVec 32 := 0#32
  let v418_r0 : BitVec 1 := Scalar.cmpi .ne v417_r0 c0_i32_303_r0
  let v419_r0 : BitVec 1 := Scalar.andi v416_r0 v418_r0
  let v405_r0 : BitVec 32 := Scalar.divsi v224_r0 c8_i32_298_r0
  let c1_i32_304_r0 : BitVec 32 := 1#32
  let v420_r0 : BitVec 32 := Scalar.subi v405_r0 c1_i32_304_r0
  let v421_r0 : BitVec 32 := Scalar.select v419_r0 v420_r0 v405_r0
  let c9_i32_305_r0 : BitVec 32 := 9#32
  let v422_r0 : BitVec 32 := Scalar.muli v421_r0 c9_i32_305_r0
  let c0_i32_187_r0 : BitVec 32 := 0#32
  let v225_r0 : BitVec 32 := Scalar.addi arg13_r0 c0_i32_187_r0
  let v423_r0 : BitVec 32 := Scalar.addi v422_r0 v225_r0
  let c0_i32_314_r0 : BitVec 32 := 0#32
  let v437_r0 : BitVec 1 := Scalar.cmpi .sgt v252_r0 c0_i32_314_r0
  let v438_r0 : BitVec 32 := Scalar.extui v437_r0
  let c0_i32_315_r0 : BitVec 32 := 0#32
  let v439_r0 : BitVec 1 := Scalar.cmpi .slt v252_r0 c0_i32_315_r0
  let v440_r0 : BitVec 32 := Scalar.extui v439_r0
  let v441_r0 : BitVec 32 := Scalar.subi v438_r0 v440_r0
  let c8_i32_313_r0 : BitVec 32 := 8#32
  let c0_i32_316_r0 : BitVec 32 := 0#32
  let v442_r0 : BitVec 1 := Scalar.cmpi .sgt c8_i32_313_r0 c0_i32_316_r0
  let v443_r0 : BitVec 32 := Scalar.extui v442_r0
  let c0_i32_317_r0 : BitVec 32 := 0#32
  let v444_r0 : BitVec 1 := Scalar.cmpi .slt c8_i32_313_r0 c0_i32_317_r0
  let v445_r0 : BitVec 32 := Scalar.extui v444_r0
  let v446_r0 : BitVec 32 := Scalar.subi v443_r0 v445_r0
  let v447_r0 : BitVec 1 := Scalar.cmpi .ne v441_r0 v446_r0
  let v448_r0 : BitVec 32 := Scalar.remsi v252_r0 c8_i32_313_r0
  let c0_i32_318_r0 : BitVec 32 := 0#32
  let v449_r0 : BitVec 1 := Scalar.cmpi .ne v448_r0 c0_i32_318_r0
  let v450_r0 : BitVec 1 := Scalar.andi v447_r0 v449_r0
  let v436_r0 : BitVec 32 := Scalar.divsi v252_r0 c8_i32_313_r0
  let c1_i32_319_r0 : BitVec 32 := 1#32
  let v451_r0 : BitVec 32 := Scalar.subi v436_r0 c1_i32_319_r0
  let v452_r0 : BitVec 32 := Scalar.select v450_r0 v451_r0 v436_r0
  let c9_i32_320_r0 : BitVec 32 := 9#32
  let v453_r0 : BitVec 32 := Scalar.muli v452_r0 c9_i32_320_r0
  let c1_i32_207_r0 : BitVec 32 := 1#32
  let v245_r0 : BitVec 32 := Scalar.addi arg13_r0 c1_i32_207_r0
  let v246_r0 : BitVec 32 := Scalar.select v243_r0 v245_r0 arg13_r0
  let c9_i32_208_r0 : BitVec 32 := 9#32
  let v247_r0 : BitVec 1 := Scalar.cmpi .eq v246_r0 c9_i32_208_r0
  let c0_i32_209_r0 : BitVec 32 := 0#32
  let v248_r0 : BitVec 32 := Scalar.select v247_r0 c0_i32_209_r0 v246_r0
  let c0_i32_215_r0 : BitVec 32 := 0#32
  let v253_r0 : BitVec 32 := Scalar.addi v248_r0 c0_i32_215_r0
  let v454_r0 : BitVec 32 := Scalar.addi v453_r0 v253_r0
  let v582_r0 : BitVec 1 := Scalar.cmpi .ne v423_r0 v454_r0
  let v583_r0 : BitVec 1 := Scalar.ori v581_r0 v582_r0
  let c0_i32_101_r0 : BitVec 32 := 0#32
  let c1_i32_102_r0 : BitVec 32 := 1#32
  let arg5_r0 : BitVec 32 := Scf.iv c0_i32_101_r0 c1_i32_102_r0 k1_t1
  let c35_i32_r0 : BitVec 32 := 35#32
  let v223_r0 : BitVec 1 := Scalar.cmpi .eq arg5_r0 c35_i32_r0
  let v584_r0 : BitVec 1 := Scalar.ori v583_r0 v223_r0
  let v585_r0 : BitVec 32 := Scalar.extui v584_r0
  let c0_i32_378_r0 : BitVec 32 := 0#32
  let v586_r0 : BitVec 1 := Scalar.cmpi .ne v585_r0 c0_i32_378_r0
  v586_r0

def k1_off25 (i : grid1.Coords) (arg13_r0 : BitVec 32) (arg14_r0 : BitVec 32) : Fin 3 → Nat :=
  let c1_i32_421_r0 : BitVec 32 := 1#32
  let c0_i32_186_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v224_r0 : BitVec 32 := Scalar.addi c0_i32_186_r0 v4
  let c8_i32_406_r0 : BitVec 32 := 8#32
  let c0_i32_407_r0 : BitVec 32 := 0#32
  let v636_r0 : BitVec 1 := Scalar.cmpi .eq c8_i32_406_r0 c0_i32_407_r0
  let c1_i32_408_r0 : BitVec 32 := 1#32
  let v637_r0 : BitVec 32 := Scalar.select v636_r0 c1_i32_408_r0 c8_i32_406_r0
  let v638_r0 : BitVec 32 := Scalar.remsi v224_r0 v637_r0
  let c0_i32_410_r0 : BitVec 32 := 0#32
  let v640_r0 : BitVec 1 := Scalar.cmpi .slt v638_r0 c0_i32_410_r0
  let c0_i32_411_r0 : BitVec 32 := 0#32
  let v641_r0 : BitVec 1 := Scalar.cmpi .slt v637_r0 c0_i32_411_r0
  let v642_r0 : BitVec 1 := Scalar.xori v640_r0 v641_r0
  let c0_i32_409_r0 : BitVec 32 := 0#32
  let v639_r0 : BitVec 1 := Scalar.cmpi .ne v638_r0 c0_i32_409_r0
  let v643_r0 : BitVec 1 := Scalar.andi v642_r0 v639_r0
  let v644_r0 : BitVec 32 := Scalar.addi v638_r0 v637_r0
  let v645_r0 : BitVec 32 := Scalar.select v643_r0 v644_r0 v638_r0
  let c4_i32_412_r0 : BitVec 32 := 4#32
  let v646_r0 : BitVec 32 := Scalar.muli v645_r0 c4_i32_412_r0
  let c0_i32_188_r0 : BitVec 32 := 0#32
  let v226_r0 : BitVec 32 := Scalar.addi arg14_r0 c0_i32_188_r0
  let v647_r0 : BitVec 32 := Scalar.addi v646_r0 v226_r0
  let v667_r0 : BitVec 32 := Scalar.muli c1_i32_421_r0 v647_r0
  let c16_i32_422_r0 : BitVec 32 := 16#32
  let c0_i32_414_r0 : BitVec 32 := 0#32
  let v649_r0 : BitVec 1 := Scalar.cmpi .sgt v224_r0 c0_i32_414_r0
  let v650_r0 : BitVec 32 := Scalar.extui v649_r0
  let c0_i32_415_r0 : BitVec 32 := 0#32
  let v651_r0 : BitVec 1 := Scalar.cmpi .slt v224_r0 c0_i32_415_r0
  let v652_r0 : BitVec 32 := Scalar.extui v651_r0
  let v653_r0 : BitVec 32 := Scalar.subi v650_r0 v652_r0
  let c8_i32_413_r0 : BitVec 32 := 8#32
  let c0_i32_416_r0 : BitVec 32 := 0#32
  let v654_r0 : BitVec 1 := Scalar.cmpi .sgt c8_i32_413_r0 c0_i32_416_r0
  let v655_r0 : BitVec 32 := Scalar.extui v654_r0
  let c0_i32_417_r0 : BitVec 32 := 0#32
  let v656_r0 : BitVec 1 := Scalar.cmpi .slt c8_i32_413_r0 c0_i32_417_r0
  let v657_r0 : BitVec 32 := Scalar.extui v656_r0
  let v658_r0 : BitVec 32 := Scalar.subi v655_r0 v657_r0
  let v659_r0 : BitVec 1 := Scalar.cmpi .ne v653_r0 v658_r0
  let v660_r0 : BitVec 32 := Scalar.remsi v224_r0 c8_i32_413_r0
  let c0_i32_418_r0 : BitVec 32 := 0#32
  let v661_r0 : BitVec 1 := Scalar.cmpi .ne v660_r0 c0_i32_418_r0
  let v662_r0 : BitVec 1 := Scalar.andi v659_r0 v661_r0
  let v648_r0 : BitVec 32 := Scalar.divsi v224_r0 c8_i32_413_r0
  let c1_i32_419_r0 : BitVec 32 := 1#32
  let v663_r0 : BitVec 32 := Scalar.subi v648_r0 c1_i32_419_r0
  let v664_r0 : BitVec 32 := Scalar.select v662_r0 v663_r0 v648_r0
  let c9_i32_420_r0 : BitVec 32 := 9#32
  let v665_r0 : BitVec 32 := Scalar.muli v664_r0 c9_i32_420_r0
  let c0_i32_187_r0 : BitVec 32 := 0#32
  let v225_r0 : BitVec 32 := Scalar.addi arg13_r0 c0_i32_187_r0
  let v666_r0 : BitVec 32 := Scalar.addi v665_r0 v225_r0
  let v668_r0 : BitVec 32 := Scalar.muli c16_i32_422_r0 v666_r0
  let c0_i32_426_r0 : BitVec 32 := 0#32
  ![v667_r0.toNat, v668_r0.toNat, 0]
def k1_off26 (arg10_r0 : BitVec 32) : Fin 1 → Nat :=
  let c2_i32_405_r0 : BitVec 32 := 2#32
  let v635_r0 : BitVec 32 := Scalar.remui arg10_r0 c2_i32_405_r0
  ![v635_r0.toNat]
def k1_off27 (arg11_r0 : BitVec 32) : Fin 4 → Nat :=
  let c2_i32_405_r0 : BitVec 32 := 2#32
  let v635_r0 : BitVec 32 := Scalar.remui arg11_r0 c2_i32_405_r0
  let c0_i32_423_r0 : BitVec 32 := 0#32
  let c0_i32_424_r0 : BitVec 32 := 0#32
  let c0_i32_425_r0 : BitVec 32 := 0#32
  ![v635_r0.toNat, 0, 0, 0]
def k1_cond11 (i : grid1.Coords) (k1_t1 : Fin k1_t1_loop.trips) (arg13_r0 : BitVec 32) (arg14_r0 : BitVec 32) : BitVec 1 :=
  let c0_i32_186_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v224_r0 : BitVec 32 := Scalar.addi c0_i32_186_r0 v4
  let c8_i32_291_r0 : BitVec 32 := 8#32
  let c0_i32_292_r0 : BitVec 32 := 0#32
  let v393_r0 : BitVec 1 := Scalar.cmpi .eq c8_i32_291_r0 c0_i32_292_r0
  let c1_i32_293_r0 : BitVec 32 := 1#32
  let v394_r0 : BitVec 32 := Scalar.select v393_r0 c1_i32_293_r0 c8_i32_291_r0
  let v395_r0 : BitVec 32 := Scalar.remsi v224_r0 v394_r0
  let c0_i32_295_r0 : BitVec 32 := 0#32
  let v397_r0 : BitVec 1 := Scalar.cmpi .slt v395_r0 c0_i32_295_r0
  let c0_i32_296_r0 : BitVec 32 := 0#32
  let v398_r0 : BitVec 1 := Scalar.cmpi .slt v394_r0 c0_i32_296_r0
  let v399_r0 : BitVec 1 := Scalar.xori v397_r0 v398_r0
  let c0_i32_294_r0 : BitVec 32 := 0#32
  let v396_r0 : BitVec 1 := Scalar.cmpi .ne v395_r0 c0_i32_294_r0
  let v400_r0 : BitVec 1 := Scalar.andi v399_r0 v396_r0
  let v401_r0 : BitVec 32 := Scalar.addi v395_r0 v394_r0
  let v402_r0 : BitVec 32 := Scalar.select v400_r0 v401_r0 v395_r0
  let c4_i32_297_r0 : BitVec 32 := 4#32
  let v403_r0 : BitVec 32 := Scalar.muli v402_r0 c4_i32_297_r0
  let c0_i32_188_r0 : BitVec 32 := 0#32
  let v226_r0 : BitVec 32 := Scalar.addi arg14_r0 c0_i32_188_r0
  let v404_r0 : BitVec 32 := Scalar.addi v403_r0 v226_r0
  let c0_i32_200_r0 : BitVec 32 := 0#32
  let v238_r0 : BitVec 32 := Scalar.addi c0_i32_200_r0 v4
  let c8_i32_351_r0 : BitVec 32 := 8#32
  let c0_i32_352_r0 : BitVec 32 := 0#32
  let v526_r0 : BitVec 1 := Scalar.cmpi .eq c8_i32_351_r0 c0_i32_352_r0
  let c1_i32_353_r0 : BitVec 32 := 1#32
  let v527_r0 : BitVec 32 := Scalar.select v526_r0 c1_i32_353_r0 c8_i32_351_r0
  let v528_r0 : BitVec 32 := Scalar.remsi v238_r0 v527_r0
  let c0_i32_355_r0 : BitVec 32 := 0#32
  let v530_r0 : BitVec 1 := Scalar.cmpi .slt v528_r0 c0_i32_355_r0
  let c0_i32_356_r0 : BitVec 32 := 0#32
  let v531_r0 : BitVec 1 := Scalar.cmpi .slt v527_r0 c0_i32_356_r0
  let v532_r0 : BitVec 1 := Scalar.xori v530_r0 v531_r0
  let c0_i32_354_r0 : BitVec 32 := 0#32
  let v529_r0 : BitVec 1 := Scalar.cmpi .ne v528_r0 c0_i32_354_r0
  let v533_r0 : BitVec 1 := Scalar.andi v532_r0 v529_r0
  let v534_r0 : BitVec 32 := Scalar.addi v528_r0 v527_r0
  let v535_r0 : BitVec 32 := Scalar.select v533_r0 v534_r0 v528_r0
  let c4_i32_357_r0 : BitVec 32 := 4#32
  let v536_r0 : BitVec 32 := Scalar.muli v535_r0 c4_i32_357_r0
  let true_190_r0 : BitVec 1 := 1#1
  let c1_i32_189_r0 : BitVec 32 := 1#32
  let v227_r0 : BitVec 32 := Scalar.subi arg14_r0 c1_i32_189_r0
  let v228_r0 : BitVec 32 := Scalar.select true_190_r0 v227_r0 arg14_r0
  let c_m1_i32_191_r0 : BitVec 32 := 4294967295#32
  let v229_r0 : BitVec 1 := Scalar.cmpi .eq v228_r0 c_m1_i32_191_r0
  let c3_i32_192_r0 : BitVec 32 := 3#32
  let v230_r0 : BitVec 32 := Scalar.select v229_r0 c3_i32_192_r0 v228_r0
  let c0_i32_202_r0 : BitVec 32 := 0#32
  let v240_r0 : BitVec 32 := Scalar.addi v230_r0 c0_i32_202_r0
  let v537_r0 : BitVec 32 := Scalar.addi v536_r0 v240_r0
  let v604_r0 : BitVec 1 := Scalar.cmpi .ne v404_r0 v537_r0
  let c0_i32_299_r0 : BitVec 32 := 0#32
  let v406_r0 : BitVec 1 := Scalar.cmpi .sgt v224_r0 c0_i32_299_r0
  let v407_r0 : BitVec 32 := Scalar.extui v406_r0
  let c0_i32_300_r0 : BitVec 32 := 0#32
  let v408_r0 : BitVec 1 := Scalar.cmpi .slt v224_r0 c0_i32_300_r0
  let v409_r0 : BitVec 32 := Scalar.extui v408_r0
  let v410_r0 : BitVec 32 := Scalar.subi v407_r0 v409_r0
  let c8_i32_298_r0 : BitVec 32 := 8#32
  let c0_i32_301_r0 : BitVec 32 := 0#32
  let v411_r0 : BitVec 1 := Scalar.cmpi .sgt c8_i32_298_r0 c0_i32_301_r0
  let v412_r0 : BitVec 32 := Scalar.extui v411_r0
  let c0_i32_302_r0 : BitVec 32 := 0#32
  let v413_r0 : BitVec 1 := Scalar.cmpi .slt c8_i32_298_r0 c0_i32_302_r0
  let v414_r0 : BitVec 32 := Scalar.extui v413_r0
  let v415_r0 : BitVec 32 := Scalar.subi v412_r0 v414_r0
  let v416_r0 : BitVec 1 := Scalar.cmpi .ne v410_r0 v415_r0
  let v417_r0 : BitVec 32 := Scalar.remsi v224_r0 c8_i32_298_r0
  let c0_i32_303_r0 : BitVec 32 := 0#32
  let v418_r0 : BitVec 1 := Scalar.cmpi .ne v417_r0 c0_i32_303_r0
  let v419_r0 : BitVec 1 := Scalar.andi v416_r0 v418_r0
  let v405_r0 : BitVec 32 := Scalar.divsi v224_r0 c8_i32_298_r0
  let c1_i32_304_r0 : BitVec 32 := 1#32
  let v420_r0 : BitVec 32 := Scalar.subi v405_r0 c1_i32_304_r0
  let v421_r0 : BitVec 32 := Scalar.select v419_r0 v420_r0 v405_r0
  let c9_i32_305_r0 : BitVec 32 := 9#32
  let v422_r0 : BitVec 32 := Scalar.muli v421_r0 c9_i32_305_r0
  let c0_i32_187_r0 : BitVec 32 := 0#32
  let v225_r0 : BitVec 32 := Scalar.addi arg13_r0 c0_i32_187_r0
  let v423_r0 : BitVec 32 := Scalar.addi v422_r0 v225_r0
  let c0_i32_359_r0 : BitVec 32 := 0#32
  let v539_r0 : BitVec 1 := Scalar.cmpi .sgt v238_r0 c0_i32_359_r0
  let v540_r0 : BitVec 32 := Scalar.extui v539_r0
  let c0_i32_360_r0 : BitVec 32 := 0#32
  let v541_r0 : BitVec 1 := Scalar.cmpi .slt v238_r0 c0_i32_360_r0
  let v542_r0 : BitVec 32 := Scalar.extui v541_r0
  let v543_r0 : BitVec 32 := Scalar.subi v540_r0 v542_r0
  let c8_i32_358_r0 : BitVec 32 := 8#32
  let c0_i32_361_r0 : BitVec 32 := 0#32
  let v544_r0 : BitVec 1 := Scalar.cmpi .sgt c8_i32_358_r0 c0_i32_361_r0
  let v545_r0 : BitVec 32 := Scalar.extui v544_r0
  let c0_i32_362_r0 : BitVec 32 := 0#32
  let v546_r0 : BitVec 1 := Scalar.cmpi .slt c8_i32_358_r0 c0_i32_362_r0
  let v547_r0 : BitVec 32 := Scalar.extui v546_r0
  let v548_r0 : BitVec 32 := Scalar.subi v545_r0 v547_r0
  let v549_r0 : BitVec 1 := Scalar.cmpi .ne v543_r0 v548_r0
  let v550_r0 : BitVec 32 := Scalar.remsi v238_r0 c8_i32_358_r0
  let c0_i32_363_r0 : BitVec 32 := 0#32
  let v551_r0 : BitVec 1 := Scalar.cmpi .ne v550_r0 c0_i32_363_r0
  let v552_r0 : BitVec 1 := Scalar.andi v549_r0 v551_r0
  let v538_r0 : BitVec 32 := Scalar.divsi v238_r0 c8_i32_358_r0
  let c1_i32_364_r0 : BitVec 32 := 1#32
  let v553_r0 : BitVec 32 := Scalar.subi v538_r0 c1_i32_364_r0
  let v554_r0 : BitVec 32 := Scalar.select v552_r0 v553_r0 v538_r0
  let c9_i32_365_r0 : BitVec 32 := 9#32
  let v555_r0 : BitVec 32 := Scalar.muli v554_r0 c9_i32_365_r0
  let c1_i32_193_r0 : BitVec 32 := 1#32
  let v231_r0 : BitVec 32 := Scalar.subi arg13_r0 c1_i32_193_r0
  let v232_r0 : BitVec 32 := Scalar.select v229_r0 v231_r0 arg13_r0
  let c_m1_i32_194_r0 : BitVec 32 := 4294967295#32
  let v233_r0 : BitVec 1 := Scalar.cmpi .eq v232_r0 c_m1_i32_194_r0
  let c8_i32_195_r0 : BitVec 32 := 8#32
  let v234_r0 : BitVec 32 := Scalar.select v233_r0 c8_i32_195_r0 v232_r0
  let c0_i32_201_r0 : BitVec 32 := 0#32
  let v239_r0 : BitVec 32 := Scalar.addi v234_r0 c0_i32_201_r0
  let v556_r0 : BitVec 32 := Scalar.addi v555_r0 v239_r0
  let v605_r0 : BitVec 1 := Scalar.cmpi .ne v423_r0 v556_r0
  let v606_r0 : BitVec 1 := Scalar.ori v604_r0 v605_r0
  let c0_i32_101_r0 : BitVec 32 := 0#32
  let c1_i32_102_r0 : BitVec 32 := 1#32
  let arg5_r0 : BitVec 32 := Scf.iv c0_i32_101_r0 c1_i32_102_r0 k1_t1
  let c0_i32_185_r0 : BitVec 32 := 0#32
  let v222_r0 : BitVec 1 := Scalar.cmpi .eq arg5_r0 c0_i32_185_r0
  let true_387_r0 : BitVec 1 := 1#1
  let v607_r0 : BitVec 1 := Scalar.xori v222_r0 true_387_r0
  let v608_r0 : BitVec 1 := Scalar.andi v606_r0 v607_r0
  let v609_r0 : BitVec 32 := Scalar.extui v608_r0
  let c0_i32_388_r0 : BitVec 32 := 0#32
  let v610_r0 : BitVec 1 := Scalar.cmpi .ne v609_r0 c0_i32_388_r0
  v610_r0

def k1_off28 (i : grid1.Coords) (arg13_r0 : BitVec 32) (arg14_r0 : BitVec 32) : Fin 3 → Nat :=
  let c1_i32_421_r0 : BitVec 32 := 1#32
  let c0_i32_200_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v238_r0 : BitVec 32 := Scalar.addi c0_i32_200_r0 v4
  let c8_i32_406_r0 : BitVec 32 := 8#32
  let c0_i32_407_r0 : BitVec 32 := 0#32
  let v636_r0 : BitVec 1 := Scalar.cmpi .eq c8_i32_406_r0 c0_i32_407_r0
  let c1_i32_408_r0 : BitVec 32 := 1#32
  let v637_r0 : BitVec 32 := Scalar.select v636_r0 c1_i32_408_r0 c8_i32_406_r0
  let v638_r0 : BitVec 32 := Scalar.remsi v238_r0 v637_r0
  let c0_i32_410_r0 : BitVec 32 := 0#32
  let v640_r0 : BitVec 1 := Scalar.cmpi .slt v638_r0 c0_i32_410_r0
  let c0_i32_411_r0 : BitVec 32 := 0#32
  let v641_r0 : BitVec 1 := Scalar.cmpi .slt v637_r0 c0_i32_411_r0
  let v642_r0 : BitVec 1 := Scalar.xori v640_r0 v641_r0
  let c0_i32_409_r0 : BitVec 32 := 0#32
  let v639_r0 : BitVec 1 := Scalar.cmpi .ne v638_r0 c0_i32_409_r0
  let v643_r0 : BitVec 1 := Scalar.andi v642_r0 v639_r0
  let v644_r0 : BitVec 32 := Scalar.addi v638_r0 v637_r0
  let v645_r0 : BitVec 32 := Scalar.select v643_r0 v644_r0 v638_r0
  let c4_i32_412_r0 : BitVec 32 := 4#32
  let v646_r0 : BitVec 32 := Scalar.muli v645_r0 c4_i32_412_r0
  let true_190_r0 : BitVec 1 := 1#1
  let c1_i32_189_r0 : BitVec 32 := 1#32
  let v227_r0 : BitVec 32 := Scalar.subi arg14_r0 c1_i32_189_r0
  let v228_r0 : BitVec 32 := Scalar.select true_190_r0 v227_r0 arg14_r0
  let c_m1_i32_191_r0 : BitVec 32 := 4294967295#32
  let v229_r0 : BitVec 1 := Scalar.cmpi .eq v228_r0 c_m1_i32_191_r0
  let c3_i32_192_r0 : BitVec 32 := 3#32
  let v230_r0 : BitVec 32 := Scalar.select v229_r0 c3_i32_192_r0 v228_r0
  let c0_i32_202_r0 : BitVec 32 := 0#32
  let v240_r0 : BitVec 32 := Scalar.addi v230_r0 c0_i32_202_r0
  let v647_r0 : BitVec 32 := Scalar.addi v646_r0 v240_r0
  let v667_r0 : BitVec 32 := Scalar.muli c1_i32_421_r0 v647_r0
  let c16_i32_422_r0 : BitVec 32 := 16#32
  let c0_i32_414_r0 : BitVec 32 := 0#32
  let v649_r0 : BitVec 1 := Scalar.cmpi .sgt v238_r0 c0_i32_414_r0
  let v650_r0 : BitVec 32 := Scalar.extui v649_r0
  let c0_i32_415_r0 : BitVec 32 := 0#32
  let v651_r0 : BitVec 1 := Scalar.cmpi .slt v238_r0 c0_i32_415_r0
  let v652_r0 : BitVec 32 := Scalar.extui v651_r0
  let v653_r0 : BitVec 32 := Scalar.subi v650_r0 v652_r0
  let c8_i32_413_r0 : BitVec 32 := 8#32
  let c0_i32_416_r0 : BitVec 32 := 0#32
  let v654_r0 : BitVec 1 := Scalar.cmpi .sgt c8_i32_413_r0 c0_i32_416_r0
  let v655_r0 : BitVec 32 := Scalar.extui v654_r0
  let c0_i32_417_r0 : BitVec 32 := 0#32
  let v656_r0 : BitVec 1 := Scalar.cmpi .slt c8_i32_413_r0 c0_i32_417_r0
  let v657_r0 : BitVec 32 := Scalar.extui v656_r0
  let v658_r0 : BitVec 32 := Scalar.subi v655_r0 v657_r0
  let v659_r0 : BitVec 1 := Scalar.cmpi .ne v653_r0 v658_r0
  let v660_r0 : BitVec 32 := Scalar.remsi v238_r0 c8_i32_413_r0
  let c0_i32_418_r0 : BitVec 32 := 0#32
  let v661_r0 : BitVec 1 := Scalar.cmpi .ne v660_r0 c0_i32_418_r0
  let v662_r0 : BitVec 1 := Scalar.andi v659_r0 v661_r0
  let v648_r0 : BitVec 32 := Scalar.divsi v238_r0 c8_i32_413_r0
  let c1_i32_419_r0 : BitVec 32 := 1#32
  let v663_r0 : BitVec 32 := Scalar.subi v648_r0 c1_i32_419_r0
  let v664_r0 : BitVec 32 := Scalar.select v662_r0 v663_r0 v648_r0
  let c9_i32_420_r0 : BitVec 32 := 9#32
  let v665_r0 : BitVec 32 := Scalar.muli v664_r0 c9_i32_420_r0
  let c1_i32_193_r0 : BitVec 32 := 1#32
  let v231_r0 : BitVec 32 := Scalar.subi arg13_r0 c1_i32_193_r0
  let v232_r0 : BitVec 32 := Scalar.select v229_r0 v231_r0 arg13_r0
  let c_m1_i32_194_r0 : BitVec 32 := 4294967295#32
  let v233_r0 : BitVec 1 := Scalar.cmpi .eq v232_r0 c_m1_i32_194_r0
  let c8_i32_195_r0 : BitVec 32 := 8#32
  let v234_r0 : BitVec 32 := Scalar.select v233_r0 c8_i32_195_r0 v232_r0
  let c0_i32_201_r0 : BitVec 32 := 0#32
  let v239_r0 : BitVec 32 := Scalar.addi v234_r0 c0_i32_201_r0
  let v666_r0 : BitVec 32 := Scalar.addi v665_r0 v239_r0
  let v668_r0 : BitVec 32 := Scalar.muli c16_i32_422_r0 v666_r0
  let c0_i32_426_r0 : BitVec 32 := 0#32
  ![v667_r0.toNat, v668_r0.toNat, 0]
def k1_off29 (arg11_r0 : BitVec 32) : Fin 1 → Nat :=
  let c2_i32_405_r0 : BitVec 32 := 2#32
  let v635_r0 : BitVec 32 := Scalar.remui arg11_r0 c2_i32_405_r0
  ![v635_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) : Prop :=
  (∀ (k1_h1 : k1_cond1 i k1_t1 arg13_r0 arg14_r0 = 1#1), ∀ a, (k1_off6 arg6_r0) a + S1x1x16x768.size a ≤ S2x1x16x768.size a) ∧
  (∀ (k1_h1 : k1_cond1 i k1_t1 arg13_r0 arg14_r0 = 1#1), ∀ a, (k1_off7 i arg13_r0 arg14_r0) a + S1x16x768.size a ≤ S128x576x768.size a) ∧
  (∀ (k1_h1 : k1_cond1 i k1_t1 arg13_r0 arg14_r0 = 1#1), ∀ a, (k1_off8 arg6_r0) a + S1.size a ≤ S2.size a) ∧
  (∀ (k1_h2 : k1_cond2 i k1_t1 arg13_r0 arg14_r0 = 1#1), ∀ a, (k1_off9 arg8_r0) a + S1x16x768.size a ≤ S2x16x768.size a) ∧
  (∀ (k1_h2 : k1_cond2 i k1_t1 arg13_r0 arg14_r0 = 1#1), ∀ a, (k1_off10 i arg13_r0 arg14_r0) a + S16x768.size a ≤ S576x768.size a) ∧
  (∀ (k1_h2 : k1_cond2 i k1_t1 arg13_r0 arg14_r0 = 1#1), ∀ a, (k1_off11 arg8_r0) a + S1.size a ≤ S2.size a) ∧
  (∀ (k1_h3 : k1_cond3 i k1_t1 arg13_r0 arg14_r0 = 1#1), ∀ a, (k1_off12 arg7_r0) a + S1x1x16x768.size a ≤ S2x1x16x768.size a) ∧
  (∀ (k1_h3 : k1_cond3 i k1_t1 arg13_r0 arg14_r0 = 1#1), ∀ a, (k1_off13 i arg13_r0 arg14_r0) a + S1x16x768.size a ≤ S128x576x768.size a) ∧
  (∀ (k1_h3 : k1_cond3 i k1_t1 arg13_r0 arg14_r0 = 1#1), ∀ a, (k1_off14 arg7_r0) a + S1.size a ≤ S2.size a) ∧
  (∀ (k1_h4 : k1_cond4 i k1_t1 arg13_r0 arg14_r0 = 1#1), ∀ a, (k1_off15 arg9_r0) a + S1x16x768.size a ≤ S2x16x768.size a) ∧
  (∀ (k1_h4 : k1_cond4 i k1_t1 arg13_r0 arg14_r0 = 1#1), ∀ a, (k1_off16 i arg13_r0) a + S16x768.size a ≤ S576x768.size a) ∧
  (∀ (k1_h4 : k1_cond4 i k1_t1 arg13_r0 arg14_r0 = 1#1), ∀ a, (k1_off17 arg9_r0) a + S1.size a ≤ S2.size a) ∧
  (∀ (k1_h8 : k1_cond8 i k1_t1 arg13_r0 arg14_r0 = 1#1), ∀ a, (k1_off24 arg10_r0) a + S1x1x16x768.size a ≤ S2x1x16x768.size a) ∧
  (∀ (k1_h8 : k1_cond8 i k1_t1 arg13_r0 arg14_r0 = 1#1), ∀ a, (k1_off25 i arg13_r0 arg14_r0) a + S1x16x768.size a ≤ S32x576x768.size a) ∧
  (∀ (k1_h8 : k1_cond8 i k1_t1 arg13_r0 arg14_r0 = 1#1), ∀ a, (k1_off26 arg10_r0) a + S1.size a ≤ S2.size a) ∧
  (∀ (k1_h11 : k1_cond11 i k1_t1 arg13_r0 arg14_r0 = 1#1), ∀ a, (k1_off27 arg11_r0) a + S1x1x16x768.size a ≤ S2x1x16x768.size a) ∧
  (∀ (k1_h11 : k1_cond11 i k1_t1 arg13_r0 arg14_r0 = 1#1), ∀ a, (k1_off28 i arg13_r0 arg14_r0) a + S1x16x768.size a ≤ S32x576x768.size a) ∧
  (∀ (k1_h11 : k1_cond11 i k1_t1 arg13_r0 arg14_r0 = 1#1), ∀ a, (k1_off29 arg11_r0) a + S1.size a ≤ S2.size a)
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (k1_hw1 : k1_chk1 i k1_t1 arg6_r0 arg7_r0 arg8_r0 arg9_r0 arg10_r0 arg11_r0 arg13_r0 arg14_r0), ∀ (k1_h1 : k1_cond1 i k1_t1 arg13_r0 arg14_r0 = 1#1), ∀ a, (k1_off6 arg6_r0) a + S1x1x16x768.size a ≤ S2x1x16x768.size a := fun i k1_t1 arg6_r0 arg7_r0 arg8_r0 arg9_r0 arg10_r0 arg11_r0 arg13_r0 arg14_r0 k1_hw1 k1_h1 => k1_hw1.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (k1_hw1 : k1_chk1 i k1_t1 arg6_r0 arg7_r0 arg8_r0 arg9_r0 arg10_r0 arg11_r0 arg13_r0 arg14_r0), ∀ (k1_h1 : k1_cond1 i k1_t1 arg13_r0 arg14_r0 = 1#1), ∀ a, (k1_off7 i arg13_r0 arg14_r0) a + S1x16x768.size a ≤ S128x576x768.size a := fun i k1_t1 arg6_r0 arg7_r0 arg8_r0 arg9_r0 arg10_r0 arg11_r0 arg13_r0 arg14_r0 k1_hw1 k1_h1 => k1_hw1.2.1 k1_h1
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (k1_hw1 : k1_chk1 i k1_t1 arg6_r0 arg7_r0 arg8_r0 arg9_r0 arg10_r0 arg11_r0 arg13_r0 arg14_r0), ∀ (k1_h1 : k1_cond1 i k1_t1 arg13_r0 arg14_r0 = 1#1), ∀ a, (k1_off8 arg6_r0) a + S1.size a ≤ S2.size a := fun i k1_t1 arg6_r0 arg7_r0 arg8_r0 arg9_r0 arg10_r0 arg11_r0 arg13_r0 arg14_r0 k1_hw1 k1_h1 => k1_hw1.2.2.1 k1_h1
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (k1_hw1 : k1_chk1 i k1_t1 arg6_r0 arg7_r0 arg8_r0 arg9_r0 arg10_r0 arg11_r0 arg13_r0 arg14_r0), ∀ (k1_h2 : k1_cond2 i k1_t1 arg13_r0 arg14_r0 = 1#1), ∀ a, (k1_off9 arg8_r0) a + S1x16x768.size a ≤ S2x16x768.size a := fun i k1_t1 arg6_r0 arg7_r0 arg8_r0 arg9_r0 arg10_r0 arg11_r0 arg13_r0 arg14_r0 k1_hw1 k1_h2 => k1_hw1.2.2.2.1 k1_h2
theorem k1_off10_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (k1_hw1 : k1_chk1 i k1_t1 arg6_r0 arg7_r0 arg8_r0 arg9_r0 arg10_r0 arg11_r0 arg13_r0 arg14_r0), ∀ (k1_h2 : k1_cond2 i k1_t1 arg13_r0 arg14_r0 = 1#1), ∀ a, (k1_off10 i arg13_r0 arg14_r0) a + S16x768.size a ≤ S576x768.size a := fun i k1_t1 arg6_r0 arg7_r0 arg8_r0 arg9_r0 arg10_r0 arg11_r0 arg13_r0 arg14_r0 k1_hw1 k1_h2 => k1_hw1.2.2.2.2.1 k1_h2
theorem k1_off11_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (k1_hw1 : k1_chk1 i k1_t1 arg6_r0 arg7_r0 arg8_r0 arg9_r0 arg10_r0 arg11_r0 arg13_r0 arg14_r0), ∀ (k1_h2 : k1_cond2 i k1_t1 arg13_r0 arg14_r0 = 1#1), ∀ a, (k1_off11 arg8_r0) a + S1.size a ≤ S2.size a := fun i k1_t1 arg6_r0 arg7_r0 arg8_r0 arg9_r0 arg10_r0 arg11_r0 arg13_r0 arg14_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (k1_hw1 : k1_chk1 i k1_t1 arg6_r0 arg7_r0 arg8_r0 arg9_r0 arg10_r0 arg11_r0 arg13_r0 arg14_r0), ∀ (k1_h3 : k1_cond3 i k1_t1 arg13_r0 arg14_r0 = 1#1), ∀ a, (k1_off12 arg7_r0) a + S1x1x16x768.size a ≤ S2x1x16x768.size a := fun i k1_t1 arg6_r0 arg7_r0 arg8_r0 arg9_r0 arg10_r0 arg11_r0 arg13_r0 arg14_r0 k1_hw1 k1_h3 => k1_hw1.2.2.2.2.2.2.1 k1_h3
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (k1_hw1 : k1_chk1 i k1_t1 arg6_r0 arg7_r0 arg8_r0 arg9_r0 arg10_r0 arg11_r0 arg13_r0 arg14_r0), ∀ (k1_h3 : k1_cond3 i k1_t1 arg13_r0 arg14_r0 = 1#1), ∀ a, (k1_off13 i arg13_r0 arg14_r0) a + S1x16x768.size a ≤ S128x576x768.size a := fun i k1_t1 arg6_r0 arg7_r0 arg8_r0 arg9_r0 arg10_r0 arg11_r0 arg13_r0 arg14_r0 k1_hw1 k1_h3 => k1_hw1.2.2.2.2.2.2.2.1 k1_h3
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (k1_hw1 : k1_chk1 i k1_t1 arg6_r0 arg7_r0 arg8_r0 arg9_r0 arg10_r0 arg11_r0 arg13_r0 arg14_r0), ∀ (k1_h3 : k1_cond3 i k1_t1 arg13_r0 arg14_r0 = 1#1), ∀ a, (k1_off14 arg7_r0) a + S1.size a ≤ S2.size a := fun i k1_t1 arg6_r0 arg7_r0 arg8_r0 arg9_r0 arg10_r0 arg11_r0 arg13_r0 arg14_r0 k1_hw1 k1_h3 => k1_hw1.2.2.2.2.2.2.2.2.1 k1_h3
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (k1_hw1 : k1_chk1 i k1_t1 arg6_r0 arg7_r0 arg8_r0 arg9_r0 arg10_r0 arg11_r0 arg13_r0 arg14_r0), ∀ (k1_h4 : k1_cond4 i k1_t1 arg13_r0 arg14_r0 = 1#1), ∀ a, (k1_off15 arg9_r0) a + S1x16x768.size a ≤ S2x16x768.size a := fun i k1_t1 arg6_r0 arg7_r0 arg8_r0 arg9_r0 arg10_r0 arg11_r0 arg13_r0 arg14_r0 k1_hw1 k1_h4 => k1_hw1.2.2.2.2.2.2.2.2.2.1 k1_h4
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (k1_hw1 : k1_chk1 i k1_t1 arg6_r0 arg7_r0 arg8_r0 arg9_r0 arg10_r0 arg11_r0 arg13_r0 arg14_r0), ∀ (k1_h4 : k1_cond4 i k1_t1 arg13_r0 arg14_r0 = 1#1), ∀ a, (k1_off16 i arg13_r0) a + S16x768.size a ≤ S576x768.size a := fun i k1_t1 arg6_r0 arg7_r0 arg8_r0 arg9_r0 arg10_r0 arg11_r0 arg13_r0 arg14_r0 k1_hw1 k1_h4 => k1_hw1.2.2.2.2.2.2.2.2.2.2.1 k1_h4
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (k1_hw1 : k1_chk1 i k1_t1 arg6_r0 arg7_r0 arg8_r0 arg9_r0 arg10_r0 arg11_r0 arg13_r0 arg14_r0), ∀ (k1_h4 : k1_cond4 i k1_t1 arg13_r0 arg14_r0 = 1#1), ∀ a, (k1_off17 arg9_r0) a + S1.size a ≤ S2.size a := fun i k1_t1 arg6_r0 arg7_r0 arg8_r0 arg9_r0 arg10_r0 arg11_r0 arg13_r0 arg14_r0 k1_hw1 k1_h4 => k1_hw1.2.2.2.2.2.2.2.2.2.2.2.1 k1_h4
theorem k1_off24_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (k1_hw1 : k1_chk1 i k1_t1 arg6_r0 arg7_r0 arg8_r0 arg9_r0 arg10_r0 arg11_r0 arg13_r0 arg14_r0), ∀ (k1_h8 : k1_cond8 i k1_t1 arg13_r0 arg14_r0 = 1#1), ∀ a, (k1_off24 arg10_r0) a + S1x1x16x768.size a ≤ S2x1x16x768.size a := fun i k1_t1 arg6_r0 arg7_r0 arg8_r0 arg9_r0 arg10_r0 arg11_r0 arg13_r0 arg14_r0 k1_hw1 k1_h8 => k1_hw1.2.2.2.2.2.2.2.2.2.2.2.2.1 k1_h8
theorem k1_off25_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (k1_hw1 : k1_chk1 i k1_t1 arg6_r0 arg7_r0 arg8_r0 arg9_r0 arg10_r0 arg11_r0 arg13_r0 arg14_r0), ∀ (k1_h8 : k1_cond8 i k1_t1 arg13_r0 arg14_r0 = 1#1), ∀ a, (k1_off25 i arg13_r0 arg14_r0) a + S1x16x768.size a ≤ S32x576x768.size a := fun i k1_t1 arg6_r0 arg7_r0 arg8_r0 arg9_r0 arg10_r0 arg11_r0 arg13_r0 arg14_r0 k1_hw1 k1_h8 => k1_hw1.2.2.2.2.2.2.2.2.2.2.2.2.2.1 k1_h8
theorem k1_off26_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (k1_hw1 : k1_chk1 i k1_t1 arg6_r0 arg7_r0 arg8_r0 arg9_r0 arg10_r0 arg11_r0 arg13_r0 arg14_r0), ∀ (k1_h8 : k1_cond8 i k1_t1 arg13_r0 arg14_r0 = 1#1), ∀ a, (k1_off26 arg10_r0) a + S1.size a ≤ S2.size a := fun i k1_t1 arg6_r0 arg7_r0 arg8_r0 arg9_r0 arg10_r0 arg11_r0 arg13_r0 arg14_r0 k1_hw1 k1_h8 => k1_hw1.2.2.2.2.2.2.2.2.2.2.2.2.2.2.1 k1_h8
theorem k1_off27_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (k1_hw1 : k1_chk1 i k1_t1 arg6_r0 arg7_r0 arg8_r0 arg9_r0 arg10_r0 arg11_r0 arg13_r0 arg14_r0), ∀ (k1_h11 : k1_cond11 i k1_t1 arg13_r0 arg14_r0 = 1#1), ∀ a, (k1_off27 arg11_r0) a + S1x1x16x768.size a ≤ S2x1x16x768.size a := fun i k1_t1 arg6_r0 arg7_r0 arg8_r0 arg9_r0 arg10_r0 arg11_r0 arg13_r0 arg14_r0 k1_hw1 k1_h11 => k1_hw1.2.2.2.2.2.2.2.2.2.2.2.2.2.2.2.1 k1_h11
theorem k1_off28_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (k1_hw1 : k1_chk1 i k1_t1 arg6_r0 arg7_r0 arg8_r0 arg9_r0 arg10_r0 arg11_r0 arg13_r0 arg14_r0), ∀ (k1_h11 : k1_cond11 i k1_t1 arg13_r0 arg14_r0 = 1#1), ∀ a, (k1_off28 i arg13_r0 arg14_r0) a + S1x16x768.size a ≤ S32x576x768.size a := fun i k1_t1 arg6_r0 arg7_r0 arg8_r0 arg9_r0 arg10_r0 arg11_r0 arg13_r0 arg14_r0 k1_hw1 k1_h11 => k1_hw1.2.2.2.2.2.2.2.2.2.2.2.2.2.2.2.2.1 k1_h11
theorem k1_off29_inb : ∀ (i : grid1.Coords) (k1_t1 : Fin k1_t1_loop.trips) (arg6_r0 : BitVec 32) (arg7_r0 : BitVec 32) (arg8_r0 : BitVec 32) (arg9_r0 : BitVec 32) (arg10_r0 : BitVec 32) (arg11_r0 : BitVec 32) (arg13_r0 : BitVec 32) (arg14_r0 : BitVec 32) (k1_hw1 : k1_chk1 i k1_t1 arg6_r0 arg7_r0 arg8_r0 arg9_r0 arg10_r0 arg11_r0 arg13_r0 arg14_r0), ∀ (k1_h11 : k1_cond11 i k1_t1 arg13_r0 arg14_r0 = 1#1), ∀ a, (k1_off29 arg11_r0) a + S1.size a ≤ S2.size a := fun i k1_t1 arg6_r0 arg7_r0 arg8_r0 arg9_r0 arg10_r0 arg11_r0 arg13_r0 arg14_r0 k1_hw1 k1_h11 => k1_hw1.2.2.2.2.2.2.2.2.2.2.2.2.2.2.2.2.2 k1_h11

def k1_off30 (v122_5_r0 : BitVec 32) : Fin 4 → Nat :=
  let c2_i32_159_r0 : BitVec 32 := 2#32
  let v180_r0 : BitVec 32 := Scalar.remui v122_5_r0 c2_i32_159_r0
  let c0_i32_177_r0 : BitVec 32 := 0#32
  let c0_i32_178_r0 : BitVec 32 := 0#32
  let c0_i32_179_r0 : BitVec 32 := 0#32
  ![v180_r0.toNat, 0, 0, 0]

def k1_off31 (i : grid1.Coords) (v122_8_r0 : BitVec 32) (v122_7_r0 : BitVec 32) : Fin 3 → Nat :=
  let c1_i32_175_r0 : BitVec 32 := 1#32
  let c0_i32_114_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v135_r0 : BitVec 32 := Scalar.addi c0_i32_114_r0 v4
  let c8_i32_160_r0 : BitVec 32 := 8#32
  let c0_i32_161_r0 : BitVec 32 := 0#32
  let v181_r0 : BitVec 1 := Scalar.cmpi .eq c8_i32_160_r0 c0_i32_161_r0
  let c1_i32_162_r0 : BitVec 32 := 1#32
  let v182_r0 : BitVec 32 := Scalar.select v181_r0 c1_i32_162_r0 c8_i32_160_r0
  let v183_r0 : BitVec 32 := Scalar.remsi v135_r0 v182_r0
  let c0_i32_164_r0 : BitVec 32 := 0#32
  let v185_r0 : BitVec 1 := Scalar.cmpi .slt v183_r0 c0_i32_164_r0
  let c0_i32_165_r0 : BitVec 32 := 0#32
  let v186_r0 : BitVec 1 := Scalar.cmpi .slt v182_r0 c0_i32_165_r0
  let v187_r0 : BitVec 1 := Scalar.xori v185_r0 v186_r0
  let c0_i32_163_r0 : BitVec 32 := 0#32
  let v184_r0 : BitVec 1 := Scalar.cmpi .ne v183_r0 c0_i32_163_r0
  let v188_r0 : BitVec 1 := Scalar.andi v187_r0 v184_r0
  let v189_r0 : BitVec 32 := Scalar.addi v183_r0 v182_r0
  let v190_r0 : BitVec 32 := Scalar.select v188_r0 v189_r0 v183_r0
  let c4_i32_166_r0 : BitVec 32 := 4#32
  let v191_r0 : BitVec 32 := Scalar.muli v190_r0 c4_i32_166_r0
  let true_105_r0 : BitVec 1 := 1#1
  let c1_i32_104_r0 : BitVec 32 := 1#32
  let v123_r0 : BitVec 32 := Scalar.subi v122_8_r0 c1_i32_104_r0
  let v124_r0 : BitVec 32 := Scalar.select true_105_r0 v123_r0 v122_8_r0
  let c_m1_i32_106_r0 : BitVec 32 := 4294967295#32
  let v125_r0 : BitVec 1 := Scalar.cmpi .eq v124_r0 c_m1_i32_106_r0
  let c3_i32_107_r0 : BitVec 32 := 3#32
  let v126_r0 : BitVec 32 := Scalar.select v125_r0 c3_i32_107_r0 v124_r0
  let c0_i32_116_r0 : BitVec 32 := 0#32
  let v137_r0 : BitVec 32 := Scalar.addi v126_r0 c0_i32_116_r0
  let v192_r0 : BitVec 32 := Scalar.addi v191_r0 v137_r0
  let v212_r0 : BitVec 32 := Scalar.muli c1_i32_175_r0 v192_r0
  let c16_i32_176_r0 : BitVec 32 := 16#32
  let c0_i32_168_r0 : BitVec 32 := 0#32
  let v194_r0 : BitVec 1 := Scalar.cmpi .sgt v135_r0 c0_i32_168_r0
  let v195_r0 : BitVec 32 := Scalar.extui v194_r0
  let c0_i32_169_r0 : BitVec 32 := 0#32
  let v196_r0 : BitVec 1 := Scalar.cmpi .slt v135_r0 c0_i32_169_r0
  let v197_r0 : BitVec 32 := Scalar.extui v196_r0
  let v198_r0 : BitVec 32 := Scalar.subi v195_r0 v197_r0
  let c8_i32_167_r0 : BitVec 32 := 8#32
  let c0_i32_170_r0 : BitVec 32 := 0#32
  let v199_r0 : BitVec 1 := Scalar.cmpi .sgt c8_i32_167_r0 c0_i32_170_r0
  let v200_r0 : BitVec 32 := Scalar.extui v199_r0
  let c0_i32_171_r0 : BitVec 32 := 0#32
  let v201_r0 : BitVec 1 := Scalar.cmpi .slt c8_i32_167_r0 c0_i32_171_r0
  let v202_r0 : BitVec 32 := Scalar.extui v201_r0
  let v203_r0 : BitVec 32 := Scalar.subi v200_r0 v202_r0
  let v204_r0 : BitVec 1 := Scalar.cmpi .ne v198_r0 v203_r0
  let v205_r0 : BitVec 32 := Scalar.remsi v135_r0 c8_i32_167_r0
  let c0_i32_172_r0 : BitVec 32 := 0#32
  let v206_r0 : BitVec 1 := Scalar.cmpi .ne v205_r0 c0_i32_172_r0
  let v207_r0 : BitVec 1 := Scalar.andi v204_r0 v206_r0
  let v193_r0 : BitVec 32 := Scalar.divsi v135_r0 c8_i32_167_r0
  let c1_i32_173_r0 : BitVec 32 := 1#32
  let v208_r0 : BitVec 32 := Scalar.subi v193_r0 c1_i32_173_r0
  let v209_r0 : BitVec 32 := Scalar.select v207_r0 v208_r0 v193_r0
  let c9_i32_174_r0 : BitVec 32 := 9#32
  let v210_r0 : BitVec 32 := Scalar.muli v209_r0 c9_i32_174_r0
  let c1_i32_108_r0 : BitVec 32 := 1#32
  let v127_r0 : BitVec 32 := Scalar.subi v122_7_r0 c1_i32_108_r0
  let v128_r0 : BitVec 32 := Scalar.select v125_r0 v127_r0 v122_7_r0
  let c_m1_i32_109_r0 : BitVec 32 := 4294967295#32
  let v129_r0 : BitVec 1 := Scalar.cmpi .eq v128_r0 c_m1_i32_109_r0
  let c8_i32_110_r0 : BitVec 32 := 8#32
  let v130_r0 : BitVec 32 := Scalar.select v129_r0 c8_i32_110_r0 v128_r0
  let c0_i32_115_r0 : BitVec 32 := 0#32
  let v136_r0 : BitVec 32 := Scalar.addi v130_r0 c0_i32_115_r0
  let v211_r0 : BitVec 32 := Scalar.addi v210_r0 v136_r0
  let v213_r0 : BitVec 32 := Scalar.muli c16_i32_176_r0 v211_r0
  let c0_i32_180_r0 : BitVec 32 := 0#32
  ![v212_r0.toNat, v213_r0.toNat, 0]

def k1_chk6 (i : grid1.Coords) (v122_8_r0 : BitVec 32) (v122_7_r0 : BitVec 32) : Prop :=
  (∀ a, (k1_off31 i v122_8_r0 v122_7_r0) a + S1x16x768.size a ≤ S32x576x768.size a)
theorem k1_off31_inb : ∀ (i : grid1.Coords) (v122_8_r0 : BitVec 32) (v122_7_r0 : BitVec 32) (k1_hw6 : k1_chk6 i v122_8_r0 v122_7_r0), ∀ a, (k1_off31 i v122_8_r0 v122_7_r0) a + S1x16x768.size a ≤ S32x576x768.size a := fun i v122_8_r0 v122_7_r0 k1_hw6 => k1_hw6

def k1_off32 (v122_5_r0 : BitVec 32) : Fin 1 → Nat :=
  let c2_i32_159_r0 : BitVec 32 := 2#32
  let v180_r0 : BitVec 32 := Scalar.remui v122_5_r0 c2_i32_159_r0
  ![v180_r0.toNat]
def k1_off33 (v122_5_r0 : BitVec 32) : Fin 4 → Nat :=
  let c2_i32_159_r0 : BitVec 32 := 2#32
  let v180_r0 : BitVec 32 := Scalar.remui v122_5_r0 c2_i32_159_r0
  let c0_i32_182_r0 : BitVec 32 := 0#32
  let c0_i32_183_r0 : BitVec 32 := 0#32
  let c0_i32_184_r0 : BitVec 32 := 0#32
  ![v180_r0.toNat, 0, 0, 0]

def k1_chk5 (v122_5_r0 : BitVec 32) : Prop :=
  (∀ a, (k1_off30 v122_5_r0) a + S1x1x16x768.size a ≤ S2x1x16x768.size a) ∧
  (∀ a, (k1_off32 v122_5_r0) a + S1.size a ≤ S2.size a) ∧
  (∀ a, (k1_off33 v122_5_r0) a + S1x1x16x768.size a ≤ S2x1x16x768.size a)
theorem k1_off30_inb : ∀ (v122_5_r0 : BitVec 32) (k1_hw5 : k1_chk5 v122_5_r0), ∀ a, (k1_off30 v122_5_r0) a + S1x1x16x768.size a ≤ S2x1x16x768.size a := fun v122_5_r0 k1_hw5 => k1_hw5.1
theorem k1_off32_inb : ∀ (v122_5_r0 : BitVec 32) (k1_hw5 : k1_chk5 v122_5_r0), ∀ a, (k1_off32 v122_5_r0) a + S1.size a ≤ S2.size a := fun v122_5_r0 k1_hw5 => k1_hw5.2.1
theorem k1_off33_inb : ∀ (v122_5_r0 : BitVec 32) (k1_hw5 : k1_chk5 v122_5_r0), ∀ a, (k1_off33 v122_5_r0) a + S1x1x16x768.size a ≤ S2x1x16x768.size a := fun v122_5_r0 k1_hw5 => k1_hw5.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S128x576x768 : Shape := ⟨3, ![128, 576, 768]⟩
abbrev S576x768 : Shape := ⟨2, ![576, 768]⟩
abbrev S576 : Shape := ⟨1, ![576]⟩
abbrev S_ : Shape := ⟨0, ![]⟩
abbrev S576x1 : Shape := ⟨2, ![576, 1]⟩
abbrev S1 : Shape := ⟨1, ![1]⟩
abbrev S1x1 : Shape := ⟨2, ![1, 1]⟩
abbrev S1x576x768 : Shape := ⟨3, ![1, 576, 768]⟩

abbrev nBuf : Space → Nat
  | .hbm => 35
  | .vmem => 0
  | .smem => 0
  | _ => 0

abbrev bufTy : (tb : Table) → Fin (tcTables nBuf tb) → BufTy
  | .hbm, ⟨0, _⟩ => ⟨S128x576x768, .f32⟩
  | .hbm, ⟨1, _⟩ => ⟨S576x768, .f32⟩
  | .hbm, ⟨2, _⟩ => ⟨S576, .i32⟩
  | .hbm, ⟨3, _⟩ => ⟨S_, .i32⟩
  | .hbm, ⟨4, _⟩ => ⟨S576, .i32⟩
  | .hbm, ⟨5, _⟩ => ⟨S576, .i32⟩
  | .hbm, ⟨6, _⟩ => ⟨S_, .i32⟩
  | .hbm, ⟨7, _⟩ => ⟨S576, .i32⟩
  | .hbm, ⟨8, _⟩ => ⟨S576, .i32⟩
  | .hbm, ⟨9, _⟩ => ⟨S_, .i32⟩
  | .hbm, ⟨10, _⟩ => ⟨S576, .i32⟩
  | .hbm, ⟨11, _⟩ => ⟨S576, .i1⟩
  | .hbm, ⟨12, _⟩ => ⟨S_, .i32⟩
  | .hbm, ⟨13, _⟩ => ⟨S576, .i32⟩
  | .hbm, ⟨14, _⟩ => ⟨S576, .i32⟩
  | .hbm, ⟨15, _⟩ => ⟨S576, .i32⟩
  | .hbm, ⟨16, _⟩ => ⟨S576x1, .i32⟩
  | .hbm, ⟨17, _⟩ => ⟨S1, .i32⟩
  | .hbm, ⟨18, _⟩ => ⟨S_, .i32⟩
  | .hbm, ⟨19, _⟩ => ⟨S576x1, .i32⟩
  | .hbm, ⟨20, _⟩ => ⟨S576x1, .i1⟩
  | .hbm, ⟨21, _⟩ => ⟨S1x1, .i32⟩
  | .hbm, ⟨22, _⟩ => ⟨S576x1, .i32⟩
  | .hbm, ⟨23, _⟩ => ⟨S576x1, .i1⟩
  | .hbm, ⟨24, _⟩ => ⟨S576x1, .i1⟩
  | .hbm, ⟨25, _⟩ => ⟨S_, .i1⟩
  | .hbm, ⟨26, _⟩ => ⟨S576, .i1⟩
  | .hbm, ⟨27, _⟩ => ⟨S576x768, .f32⟩
  | .hbm, ⟨28, _⟩ => ⟨S576x768, .i1⟩
  | .hbm, ⟨29, _⟩ => ⟨S_, .f32⟩
  | .hbm, ⟨30, _⟩ => ⟨S576x768, .f32⟩
  | .hbm, ⟨31, _⟩ => ⟨S576x768, .f32⟩
  | .hbm, ⟨32, _⟩ => ⟨S1x576x768, .f32⟩
  | .hbm, ⟨33, _⟩ => ⟨S128x576x768, .f32⟩
  | .hbm, ⟨34, _⟩ => ⟨S128x576x768, .f32⟩
  | _, _ => ⟨S128x576x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩

abbrev nD : Nat := 1
abbrev τ : Topo := Topo.v7x

variable {F : FTy → Type} [FloatOps F]
-- ==== Proof.Words.lean ====
/-
  The pipeline's words. Every trip of the SparseCore body's pipelined loop carries nine words: how many blocks of each
  operand it has asked for and waited for, and which block it is at. Here they are read as functions of the trip number,
  and every condition, check and offset the trip computes from them is read in closed form. Each fact is decided by
  evaluation at all two cores, sixteen tiles and thirty-six trips.
-/
module

public import proofs.«01_k».proof.Defs
public import proofs.«01_k».proof.Proof.Gen.KernelIdeal
public import proofs.«01_k».proof.Proof.Gen.KernelIdeal.Skeleton

@[expose] public section

namespace Cert.Proof.Tile

open Cert.KernelIdeal Cert.KernelIdeal.Gen
open Idealize.ShloMosaic

/-! ## A tile, named by its core and its number -/

/-- The grid point of core `c`'s tile `s`. -/
def tileAt (c : Fin (grid1.bound 0)) (s : Fin (grid1.bound 1)) : grid1.Coords :=
  fun | 0 => c | 1 => s | ⟨_ + 2, h⟩ => absurd h (Nat.not_lt.2 (Nat.le_add_left _ _))

theorem tileAt_self (L : grid1.Coords) : tileAt (L 0) (L 1) = L :=
  funext fun | 0 => rfl | 1 => rfl | ⟨_ + 2, h⟩ => absurd h (Nat.not_lt.2 (Nat.le_add_left _ _))

/-- Whatever is so at every core's every tile is so at every grid point. -/
theorem forall_tile {P : grid1.Coords → Prop} (h : ∀ c s, P (tileAt c s)) (L : grid1.Coords) : P L :=
  tileAt_self L ▸ h (L 0) (L 1)

/-- The tile's number among all thirty-two, as the body computes it. -/
def tileNo (L : grid1.Coords) : ℕ := (L 1).val + 16 * (L 0).val

/-- That number as a word. -/
def tileW (L : grid1.Coords) : BitVec 32 := BitVec.ofNat 32 (tileNo L)

/-! ## The carried words before trip `t` -/

def w6 (t : ℕ) : BitVec 32 := BitVec.ofNat 32 (min (t + 1) 36)
def w7 (t : ℕ) : BitVec 32 := BitVec.ofNat 32 t
def w8 (t : ℕ) : BitVec 32 := BitVec.ofNat 32 (1 + min t 35 / 4)
def w9 (t : ℕ) : BitVec 32 := BitVec.ofNat 32 (t / 4)
def w11 (t : ℕ) : BitVec 32 := BitVec.ofNat 32 (t - 1)
def w13 (t : ℕ) : BitVec 32 := BitVec.ofNat 32 (t / 4 % 9)
def w14 (t : ℕ) : BitVec 32 := BitVec.ofNat 32 (t % 4)

/-! ## The blocks, numbered by the trip that reads or writes them -/

/-- The first row of the table, of the patches and of the result that trip `t` of tile `L` is at. -/
def rowAt (L : grid1.Coords) (t : ℕ) : ℕ := 16 * (tileNo L / 8 * 9 + t / 4 % 9)
/-- The batch of the result it is at; the patches' lies ninety-six further. -/
def batchAt (L : grid1.Coords) (t : ℕ) : ℕ := tileNo L % 8 * 4 + t % 4

/-! ## The conditions -/

theorem cond1_iff : ∀ (L : grid1.Coords) (t : Fin k1_t1_loop.trips), k1_cond1 L t (w13 t) (w14 t) = 1#1 ↔ t.val < 35 :=
  forall_tile (by decide +kernel)
theorem cond2_iff : ∀ (L : grid1.Coords) (t : Fin k1_t1_loop.trips), k1_cond2 L t (w13 t) (w14 t) = 1#1 ↔ t.val < 35 ∧ t.val % 4 = 3 :=
  forall_tile (by decide +kernel)
theorem cond3_true : ∀ (L : grid1.Coords) (t : Fin k1_t1_loop.trips), k1_cond3 L t (w13 t) (w14 t) = 1#1 :=
  forall_tile (by decide +kernel)
theorem cond4_iff : ∀ (L : grid1.Coords) (t : Fin k1_t1_loop.trips), k1_cond4 L t (w13 t) (w14 t) = 1#1 ↔ t.val % 4 = 0 :=
  forall_tile (by decide +kernel)
theorem cond8_true : ∀ (L : grid1.Coords) (t : Fin k1_t1_loop.trips), k1_cond8 L t (w13 t) (w14 t) = 1#1 :=
  forall_tile (by decide +kernel)
theorem cond11_iff : ∀ (L : grid1.Coords) (t : Fin k1_t1_loop.trips), k1_cond11 L t (w13 t) (w14 t) = 1#1 ↔ 1 ≤ t.val :=
  forall_tile (by decide +kernel)

/-! ## The checks -/

theorem chk1_holds : ∀ (L : grid1.Coords) (t : Fin k1_t1_loop.trips),
    k1_chk1 L t (w6 t) (w7 t) (w8 t) (w9 t) (w7 t) (w11 t) (w13 t) (w14 t) :=
  forall_tile (by decide +kernel)
theorem chk2_holds : ∀ t : Fin k1_t1_loop.trips, k1_chk2 (w7 t) := by decide +kernel
theorem chk3_holds : ∀ t : Fin k1_t1_loop.trips, k1_chk3 (w9 t) := by decide +kernel
theorem chk4_holds : ∀ t : Fin k1_t1_loop.trips, k1_chk4 (w7 t) := by decide +kernel
theorem chk5_holds : k1_chk5 (w11 36) := by decide +kernel
theorem chk6_holds : ∀ L : grid1.Coords, k1_chk6 L (w14 36) (w13 36) := forall_tile (by decide +kernel)

/-! ## Where each access lands -/

theorem off1_eq : k1_off1 = ![0, 0, 0, 0] := by decide +kernel
theorem off2_eq : ∀ L : grid1.Coords, k1_off2 L = ![96 + batchAt L 0, rowAt L 0, 0] := forall_tile (by decide +kernel)
theorem off3_eq : k1_off3 = ![0] := by decide +kernel
theorem off4_eq : k1_off4 = ![0, 0, 0] := by decide +kernel
theorem off5_eq : ∀ L : grid1.Coords, k1_off5 L = ![rowAt L 0, 0] := forall_tile (by decide +kernel)
theorem off6_eq : ∀ t : Fin k1_t1_loop.trips, t.val < 35 → k1_off6 (w6 t) = ![(t.val + 1) % 2, 0, 0, 0] := by decide +kernel
theorem off7_eq : ∀ (L : grid1.Coords) (t : Fin k1_t1_loop.trips), t.val < 35 →
    k1_off7 L (w13 t) (w14 t) = ![96 + batchAt L (t + 1), rowAt L (t + 1), 0] := forall_tile (by decide +kernel)
theorem off8_eq : ∀ t : Fin k1_t1_loop.trips, t.val < 35 → k1_off8 (w6 t) = ![(t.val + 1) % 2] := by decide +kernel
theorem off9_eq : ∀ t : Fin k1_t1_loop.trips, t.val < 35 → k1_off9 (w8 t) = ![(t.val / 4 + 1) % 2, 0, 0] := by decide +kernel
theorem off10_eq : ∀ (L : grid1.Coords) (t : Fin k1_t1_loop.trips), t.val < 35 →
    k1_off10 L (w13 t) (w14 t) = ![rowAt L (t + 1), 0] := forall_tile (by decide +kernel)
theorem off11_eq : ∀ t : Fin k1_t1_loop.trips, t.val < 35 → k1_off11 (w8 t) = ![(t.val / 4 + 1) % 2] := by decide +kernel
theorem off14_eq : ∀ t : Fin k1_t1_loop.trips, k1_off14 (w7 t) = ![t.val % 2] := by decide +kernel
theorem off17_eq : ∀ t : Fin k1_t1_loop.trips, k1_off17 (w9 t) = ![t.val / 4 % 2] := by decide +kernel
theorem off18_eq : ∀ t : Fin k1_t1_loop.trips, k1_off18 (w7 t) = ![t.val % 2, 0, 0, 0] := by decide +kernel
theorem off19_eq : ∀ (a : Fin k1_t2_loop.trips) (b : Fin k1_t3_loop.trips), k1_off19 a b = ![0, a.val, 16 * b.val] := by decide +kernel
theorem off20_eq : ∀ t : Fin k1_t1_loop.trips, k1_off20 (w9 t) = ![t.val / 4 % 2, 0, 0] := by decide +kernel
theorem off21_eq : ∀ (a : Fin k1_t2_loop.trips) (b : Fin k1_t3_loop.trips), k1_off21 a b = ![a.val, 16 * b.val] := by decide +kernel
theorem off22_eq : ∀ t : Fin k1_t1_loop.trips, k1_off22 (w7 t) = ![t.val % 2, 0, 0, 0] := by decide +kernel
theorem off23_eq : ∀ (a : Fin k1_t2_loop.trips) (b : Fin k1_t3_loop.trips), k1_off23 a b = ![0, a.val, 16 * b.val] := by decide +kernel
theorem off24_eq : ∀ t : Fin k1_t1_loop.trips, k1_off24 (w7 t) = ![t.val % 2, 0, 0, 0] := by decide +kernel
theorem off25_eq : ∀ (L : grid1.Coords) (t : Fin k1_t1_loop.trips),
    k1_off25 L (w13 t) (w14 t) = ![batchAt L t, rowAt L t, 0] := forall_tile (by decide +kernel)
theorem off26_eq : ∀ t : Fin k1_t1_loop.trips, k1_off26 (w7 t) = ![t.val % 2] := by decide +kernel
theorem off29_eq : ∀ t : Fin k1_t1_loop.trips, 1 ≤ t.val → k1_off29 (w11 t) = ![(t.val + 1) % 2] := by decide +kernel
theorem off32_eq : k1_off32 (w11 36) = ![1] := by decide +kernel

end Cert.Proof.Tile
-- ==== Proof.Slots.lean ====
/-
  One tile's operands and staging. The pipeline of a tile double-buffers each operand: two slots per operand, one DMA
  semaphore per slot. Here are the slots, their semaphores, the blocks of the arrays that a tile moves, what the arrays hold
  there, and what a tile holds of a slot while it is free, while a block is on its way into it or out of it, and once a
  block has come. The tile moves block `t` of its thirty-six at trip `t`.
-/
module

public import proofs.«01_k».proof.Proof.Words
public import Idealize.ShloMosaic.Lib.SparseCore.Quiescent
public import Idealize.ShloMosaic.Lib.Tactic
public import Idealize.ShloMosaic.Lib.Writes
public import Idealize.ShloMosaic.Lib.Pointwise

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Flight wp_dmaLocal wp_waitLocalO)

variable {F : FTy → Type} {U : Type} [URA U]

local notation "𝕄" => MT nD τ sig (HIx 1) (Elt F) ℕ U ℕ

/-! ## The operands and the staging buffers -/

/-- The patches, the table and the tiles' result, as a tile names them. -/
abbrev aM : Memref sig .scVector .hbm S128x576x768 .f32 := Memref.whole main_arg0_scv
abbrev bM : Memref sig .scVector .hbm S576x768 .f32 := Memref.whole main_arg1_scv
abbrev oM : Memref sig .scVector .hbm S32x576x768 .f32 := Memref.whole main_v1_scv
/-- Their staging buffers, two slots each. -/
abbrev pB : Memref sig .scVector .vmem S2x1x16x768 .f32 := Memref.whole cc1_scoped0
abbrev tB : Memref sig .scVector .vmem S2x16x768 .f32 := Memref.whole cc1_scoped2
abbrev oB : Memref sig .scVector .vmem S2x1x16x768 .f32 := Memref.whole cc1_scoped4

/-- The tile at grid point `L` of device `d`. -/
abbrev thr (d : Dev nD) (L : grid1.Coords) : Thread nD τ := V d ((L 0).castLE hcore1) ((L 1).castLE hsub1)

theorem slot4_inb (n : Fin 2) : ∀ a, (![n.val, 0, 0, 0] : Fin 4 → ℕ) a + S1x1x16x768.size a ≤ S2x1x16x768.size a := by
  revert n; decide
theorem slot3_inb (n : Fin 2) : ∀ a, (![n.val, 0, 0] : Fin 3 → ℕ) a + S1x16x768.size a ≤ S2x16x768.size a := by
  revert n; decide
theorem slot1_inb (n : Fin 2) : ∀ a, (![n.val] : Fin 1 → ℕ) a + S1.size a ≤ S2.size a := by
  revert n; decide

/-- Slot `n` of a four-axis staging buffer, of a three-axis one, and of a pair of semaphores. -/
abbrev slot4 (B : Memref sig .scVector .vmem S2x1x16x768 .f32) (n : Fin 2) : Memref sig .scVector .vmem S1x16x768 .f32 :=
  (B.slice (Rect.unit (s := S2x1x16x768) ![n.val, 0, 0, 0] S1x1x16x768.size (slot4_inb n)) (fun _ => rfl)).squeeze S1x16x768 squeezes_S1x1x16x768_S1x16x768
abbrev slot3 (B : Memref sig .scVector .vmem S2x16x768 .f32) (n : Fin 2) : Memref sig .scVector .vmem S16x768 .f32 :=
  (B.slice (Rect.unit (s := S2x16x768) ![n.val, 0, 0] S1x16x768.size (slot3_inb n)) (fun _ => rfl)).squeeze S16x768 squeezes_S1x16x768_S16x768
abbrev slotSem (v : DmaSems sig S2) (n : Fin 2) : DmaSem sig :=
  ((v.slice (Rect.unit (s := S2) ![n.val] S1.size (slot1_inb n))).squeeze S_ squeezes_S1_S_).sem

/-- The slot a counter stands at. -/
abbrev sl (k : ℕ) : Fin 2 := ⟨k % 2, Nat.mod_lt _ (by decide)⟩

theorem sl_add_two (k : ℕ) : sl (k + 2) = sl k := Fin.ext (Nat.add_mod_right k 2)

/-! ## The blocks -/

theorem core_lt (L : grid1.Coords) : (L 0).val < 2 := (L 0).isLt
theorem sub_lt (L : grid1.Coords) : (L 1).val < 16 := (L 1).isLt

theorem tileNo_lt (L : grid1.Coords) : tileNo L < 32 := by
  have := core_lt L; have := sub_lt L; unfold tileNo; omega
theorem batchAt_le (L : grid1.Coords) (t : ℕ) : batchAt L t + 1 ≤ 32 := by unfold batchAt; omega
theorem rowAt_le (L : grid1.Coords) (t : ℕ) : rowAt L t + 16 ≤ 576 := by
  have := tileNo_lt L; unfold rowAt; omega
theorem rowAt_div (L : grid1.Coords) (t : ℕ) : rowAt L (4 * (t / 4)) = rowAt L t := by unfold rowAt; omega

theorem pBlk_inb (L : grid1.Coords) (t : ℕ) :
    ∀ a, (![96 + batchAt L t, rowAt L t, 0] : Fin 3 → ℕ) a + S1x16x768.size a ≤ S128x576x768.size a := by
  have h1 := batchAt_le L t; have h2 := rowAt_le L t
  intro a
  match a with
  | 0 => show 96 + batchAt L t + 1 ≤ 128; omega
  | 1 => show rowAt L t + 16 ≤ 576; omega
  | 2 => show 0 + 768 ≤ 768; omega
theorem tBlk_inb (L : grid1.Coords) (t : ℕ) :
    ∀ a, (![rowAt L t, 0] : Fin 2 → ℕ) a + S16x768.size a ≤ S576x768.size a := by
  have h2 := rowAt_le L t
  intro a
  match a with
  | 0 => show rowAt L t + 16 ≤ 576; omega
  | 1 => show 0 + 768 ≤ 768; omega
theorem oBlk_inb (L : grid1.Coords) (t : ℕ) :
    ∀ a, (![batchAt L t, rowAt L t, 0] : Fin 3 → ℕ) a + S1x16x768.size a ≤ S32x576x768.size a := by
  have h1 := batchAt_le L t; have h2 := rowAt_le L t
  intro a
  match a with
  | 0 => show batchAt L t + 1 ≤ 32; omega
  | 1 => show rowAt L t + 16 ≤ 576; omega
  | 2 => show 0 + 768 ≤ 768; omega

/-- The block of the patches, of the table and of the result that trip `t` is at. -/
abbrev pBlk (L : grid1.Coords) (t : ℕ) : Memref sig .scVector .hbm S1x16x768 .f32 :=
  aM.slice (Rect.unit (s := S128x576x768) ![96 + batchAt L t, rowAt L t, 0] S1x16x768.size (pBlk_inb L t)) (fun _ => rfl)
abbrev tBlk (L : grid1.Coords) (t : ℕ) : Memref sig .scVector .hbm S16x768 .f32 :=
  bM.slice (Rect.unit (s := S576x768) ![rowAt L t, 0] S16x768.size (tBlk_inb L t)) (fun _ => rfl)
abbrev oBlk (L : grid1.Coords) (t : ℕ) : Memref sig .scVector .hbm S1x16x768 .f32 :=
  oM.slice (Rect.unit (s := S32x576x768) ![batchAt L t, rowAt L t, 0] S1x16x768.size (oBlk_inb L t)) (fun _ => rfl)

/-! ## The values -/

-- what the patches and the table hold
variable (xa : S128x576x768.Idx → Elt F .f32) (xb : S576x768.Idx → Elt F .f32)

/-- The block of the patches, and of the table, that trip `t` works on. -/
def pVal (L : grid1.Coords) (t : ℕ) : S1x16x768.Idx → Elt F .f32 := (pBlk L t).view.read (Elt F) xa
def tVal (L : grid1.Coords) (t : ℕ) : S16x768.Idx → Elt F .f32 := (tBlk L t).view.read (Elt F) xb

theorem tVal_div (L : grid1.Coords) (t : ℕ) : tVal xb L (4 * (t / 4)) = tVal xb L t := by
  have key : ∀ (r : ℕ) (h : r = rowAt L t) (p : ∀ a, (![r, 0] : Fin 2 → ℕ) a + S16x768.size a ≤ S576x768.size a),
      (bM.slice (Rect.unit (s := S576x768) ![r, 0] S16x768.size p) (fun _ => rfl)).view.read (Elt F) xb = tVal xb L t := by
    rintro r rfl p; rfl
  exact key _ (rowAt_div L t) _

variable [FloatOps F]

/-- The sum of a block of patches and a block of the table. -/
def wVal (P : S1x16x768.Idx → Elt F .f32) (Tb : S16x768.Idx → Elt F .f32) : S1x16x768.Idx → Elt F .f32 :=
  fun y => FloatOps.addf (φ := .f32) (P y) (Tb (ValueIdx.ix2 (y 1) (y 2)))

/-- The tiles' result: patch `b + 96` plus the table. -/
def tailVal : S32x576x768.Idx → Elt F .f32 :=
  fun i => FloatOps.addf (φ := .f32) (xa (ValueIdx.ix3 ⟨(i 0).val + 96, Nat.add_lt_add_right (i 0).isLt 96⟩ (i 1) (i 2))) (xb (ValueIdx.ix2 (i 1) (i 2)))

/-- Staging elements that read `w` through a memref. -/
abbrev held (c : Thread nD τ) {s : Shape} (B : Memref sig c.2.kind .vmem s .f32) (w : s.Idx → Elt F .f32) : sProp 𝕄 :=
  iprop(∃ f, ⌜B.view.read (Elt F) f = w⌝ ∗ B.view.loc c ↦[B.view.set]{fullShare} f)

/-- Staging elements, whatever they hold. -/
abbrev loose (c : Thread nD τ) {s : Shape} (B : Memref sig c.2.kind .vmem s .f32) : sProp 𝕄 :=
  iprop(∃ f, B.view.loc c ↦[B.view.set]{fullShare} f)

/-! ## A slot that an operand is fetched into

The array `A` is held whole at a share of the slot's own, so two slots read it at once. -/

section Fetch

variable (EC : UEmb Counters (MT nD τ sig (HIx 1) (Elt F) ℕ U ℕ)) [EC.LandsIn (upEmb : UEmb _ (MT nD τ sig (HIx 1) (Elt F) ℕ U ℕ))]
variable (c : Thread nD τ) {sA s : Shape} (A : Memref sig c.2.kind .hbm sA .f32) (B : Memref sig c.2.kind .vmem s .f32)
  (sm : DmaSem sig) (q : PosShare TreeShare) (x : Buf (Elt F) (A.view.loc c))

/-- The slot, free: its semaphore at zero, its elements whatever they hold. -/
def inFree : sProp 𝕄 :=
  iprop(semVal (c, .dma sm) 0 ∗ loose c B ∗ (A.view.loc c ↦[Finset.univ]{q} x))

/-- The slot, holding `w`. -/
def inHave (w : s.Idx → Elt F .f32) : sProp 𝕄 :=
  iprop(semVal (c, .dma sm) 0 ∗ held c B w ∗ (A.view.loc c ↦[Finset.univ]{q} x))

/-- The slot, the array's elements `S`, which hold `w`, on their way into it. -/
def inFly (S : Finset (Idx (A.view.loc c))) (w : s.Idx → Elt F .f32) : sProp 𝕄 :=
  iprop(Flight EC c (.dma sm) (default : HIx 1) B.view.dmaCredit
      iprop(held c B w ∗ (A.view.loc c ↦[S]{q} x))
    ∗ (A.view.loc c ↦[Finset.univ \ S]{q} x))

theorem inHave_free (w : s.Idx → Elt F .f32) : (inHave c A B sm q x w : sProp 𝕄) ⊢ inFree c A B sm q x := by
  unfold inHave inFree
  iintro ⟨Hv, ⟨%f, -, Hf⟩, Ha⟩
  isplitl [Hv]; · iexact Hv
  isplitl [Hf]; · iexists f; iexact Hf
  iexact Ha

variable {α : Type} {Q : α → sProp (MT nD τ sig (HIx 1) (Elt F) ℕ U ℕ)} {Λ : Labels} {defs : Defs nD τ sig (Elt F) Λ} (𝒱 : Variants) (bd : Option 𝒱.V)

/-- What a transfer into a slot leaves there reads as what it brought. -/
theorem lands (B : Memref sig c.2.kind .vmem s .f32) (f : Buf (Elt F) (B.view.loc c)) (w : s.Idx → Elt F .f32)
    (R : sProp (MT nD τ sig (HIx 1) (Elt F) ℕ U ℕ)) :
    iprop((B.view.loc c ↦[B.view.set]{fullShare} B.view.write (Elt F) f w Finset.univ) ∗ R)
      ⊢ iprop(held c B w ∗ R) := by
  iintro ⟨Hd, Hs⟩
  isplitl [Hd]
  · iexists (B.view.write (Elt F) f w Finset.univ)
    isplitr; · ipureintro; exact View.read_write_univ (v := B.view) f w
    iexact Hd
  iexact Hs

/-- Starting a fetch. -/
theorem wp_fetch (r : Rect sA) (hr : ∀ a, r.stride a = 1) (B : Memref sig c.2.kind .vmem r.shape .f32) (hpos : 0 < r.shape.numel)
    {hsrc : (A.slice r hr).view.WordExact} {hdst : B.view.WordExact}
    {hsem : DmaTarget.Typed (nD := nD) .hbm (.dma sm) (.here B)} {k : PUnit → Prog (TpuEff nD τ sig (Elt F) Λ c.2) α} :
    iprop(inFree c A B sm q x ∗ (inFly EC c A B sm q x (A.slice r hr).view.set ((A.slice r hr).view.read (Elt F) x)
        -∗ wp frame (wpE defs 𝒱 c bd) Set.univ (k ⟨⟩) Q))
      ⊢ wp frame (wpE defs 𝒱 c bd) Set.univ (.op (.enqueueDma (A.slice r hr) (.here B) (.dma sm) hsrc hdst hsem) k) Q := by
  unfold inFree inFly
  iintro ⟨⟨Hv, ⟨%f, Hf⟩, Ha⟩, Hk⟩
  ihave Ha := (pointsTo_split_subset (Finset.subset_univ (A.slice r hr).view.set)).1 $$ Ha
  icases Ha with ⟨Hs, Hrest⟩
  iapply (wp_dmaLocal EC 𝒱 c bd (default : HIx 1) B.view.dmaCredit rfl (B.view.dmaCredit_pos hpos) subset_rfl) $$ [Hs Hf Hv]
  · isplitl [Hs]; · iexact Hs
    isplitl [Hf]; · iexact Hf
    iexact Hv
  iintro HF
  iapply Hk
  isplitl [HF]
  · iapply (Transfers.Flight_mono EC c (lands c B f _ _)) $$ HF
  iexact Hrest

/-- Waiting for it. -/
theorem wp_fetched {S : Finset (Idx (A.view.loc c))} {w : s.Idx → Elt F .f32} {O : CellTallies nD τ sig (HIx 1)} {W : Waits sig (HIx 1)}
    {s' : Shape} {e' : EltTy} {sp' : Space} {srcw : Memref sig c.2.kind sp' s' e'} {dstw : Memref sig c.2.kind .vmem s .f32}
    (hN : dstw.view.dmaCredit = B.view.dmaCredit)
    {hsrc : srcw.view.WordExact} {hdst : dstw.view.WordExact} {k : PUnit → Prog (TpuEff nD τ sig (Elt F) Λ c.2) α} :
    iprop((Transfers.MayWaits c (default : HIx 1) O ∗ owes c O W ∗ inFly EC c A B sm q x S w)
        ∗ ((inHave c A B sm q x w ∗ owes c O (insert (SemLoc.dma sm, default) W)) -∗ wp frame (wpE defs 𝒱 c bd) Set.univ (k ⟨⟩) Q))
      ⊢ wp frame (wpE defs 𝒱 c bd) Set.univ (.op (.waitDma2 sm srcw dstw hsrc hdst) k) Q := by
  unfold inFly inHave
  iintro ⟨⟨Hm, HO, HF, Hrest⟩, Hk⟩
  ihave Hw := (Transfers.MayWaits.elim (.dma sm)) $$ Hm
  iapply (wp_waitLocalO EC 𝒱 c bd (default : HIx 1) hN) $$ [HF HO Hw]
  · isplitl [HF]; · iexact HF
    isplitl [HO]; · iexact HO
    iexact Hw
  iintro ⟨⟨Hf, Hs⟩, Hv, HO⟩
  iapply Hk
  isplitr [HO]
  · isplitl [Hv]; · iexact Hv
    isplitl [Hf]; · iexact Hf
    iapply (pointsTo_split_subset (Finset.subset_univ S)).2
    isplitl [Hs]; · iexact Hs
    iexact Hrest
  iexact HO

end Fetch

/-! ## A slot that a result is written from -/

section Flush

variable (EC : UEmb Counters (MT nD τ sig (HIx 1) (Elt F) ℕ U ℕ)) [EC.LandsIn (upEmb : UEmb _ (MT nD τ sig (HIx 1) (Elt F) ℕ U ℕ))]
variable (c : Thread nD τ) {sO s : Shape} (A : Memref sig c.2.kind .hbm sO .f32) (B : Memref sig c.2.kind .vmem s .f32)
  (sm : DmaSem sig) (G : Buf (Elt F) (A.view.loc c))

/-- The slot, free. -/
def outFree : sProp 𝕄 := iprop(semVal (c, .dma sm) 0 ∗ loose c B)

/-- The slot, holding `w`. -/
def outHave (w : s.Idx → Elt F .f32) : sProp 𝕄 :=
  iprop(semVal (c, .dma sm) 0 ∗ held c B w)

/-- The slot, its contents on their way to the array's elements `S`, which will hold what `G` says. -/
def outFly (n : ℕ) (S : Finset (Idx (A.view.loc c))) : sProp 𝕄 :=
  Flight EC c (.dma sm) (default : HIx 1) n
    iprop((A.view.loc c ↦[S]{fullShare} G) ∗ loose c B)

variable {α : Type} {Q : α → sProp (MT nD τ sig (HIx 1) (Elt F) ℕ U ℕ)} {Λ : Labels} {defs : Defs nD τ sig (Elt F) Λ} (𝒱 : Variants) (bd : Option 𝒱.V)

/-- What is written through a view is, on the view's elements, any contents that read so through it. -/
theorem pointsTo_written {sp : Space} {s : Shape} (v : View sig c.2.kind sp s .f32) (f g : Buf (Elt F) (v.loc c)) (w : s.Idx → Elt F .f32)
    (h : v.read (Elt F) g = w) :
    (v.loc c ↦[v.set]{fullShare} v.write (Elt F) f w Finset.univ : sProp 𝕄) = v.loc c ↦[v.set]{fullShare} g :=
  pointsTo_congr fun i hi => by
    obtain ⟨y, -, rfl⟩ := Finset.mem_map.mp hi
    rw [View.write_emb_of_mem _ _ (Finset.mem_univ y), ← h, View.read_apply, cast_cast, cast_eq]

/-- What a write's transfer delivers, the array's part restated. -/
theorem flushed_lands (B : Memref sig c.2.kind .vmem s .f32) (f : Buf (Elt F) (B.view.loc c))
    (R R' : sProp (MT nD τ sig (HIx 1) (Elt F) ℕ U ℕ)) (h : R = R') :
    iprop(R ∗ (B.view.loc c ↦[B.view.set]{fullShare} f)) ⊢ iprop(R' ∗ loose c B) := by
  subst h
  iintro ⟨Hd, Hs⟩
  isplitl [Hd]; · iexact Hd
  iexists f
  iexact Hs

/-- Starting a write. -/
theorem wp_flush (r : Rect sO) (hr : ∀ a, r.stride a = 1) (B : Memref sig c.2.kind .vmem r.shape .f32) (hpos : 0 < r.shape.numel)
    (f₀ : Buf (Elt F) (A.view.loc c)) {w : r.shape.Idx → Elt F .f32} (hG : (A.slice r hr).view.read (Elt F) G = w)
    {hsrc : B.view.WordExact} {hdst : (A.slice r hr).view.WordExact}
    {hsem : DmaTarget.Typed (nD := nD) .vmem (.dma sm) (.here (A.slice r hr))} {k : PUnit → Prog (TpuEff nD τ sig (Elt F) Λ c.2) α} :
    iprop((outHave c B sm w ∗ (A.view.loc c ↦[(A.slice r hr).view.set]{fullShare} f₀))
        ∗ (outFly EC c A B sm G (A.slice r hr).view.dmaCredit (A.slice r hr).view.set -∗ wp frame (wpE defs 𝒱 c bd) Set.univ (k ⟨⟩) Q))
      ⊢ wp frame (wpE defs 𝒱 c bd) Set.univ (.op (.enqueueDma B (.here (A.slice r hr)) (.dma sm) hsrc hdst hsem) k) Q := by
  unfold outHave outFly
  iintro ⟨⟨⟨Hv, ⟨%f, %hf, Hf⟩⟩, Ha⟩, Hk⟩
  iapply (wp_dmaLocal EC 𝒱 c bd (default : HIx 1) (A.slice r hr).view.dmaCredit rfl ((A.slice r hr).view.dmaCredit_pos hpos) subset_rfl) $$ [Ha Hf Hv]
  · isplitl [Hf]; · iexact Hf
    isplitl [Ha]; · iexact Ha
    iexact Hv
  iintro HF
  iapply Hk
  iapply (Transfers.Flight_mono EC c (flushed_lands c B f _ _ (pointsTo_written c (A.slice r hr).view f₀ G _ (hG.trans hf.symm)))) $$ HF

/-- Waiting for it. -/
theorem wp_flushed {n : ℕ} {S : Finset (Idx (A.view.loc c))} {O : CellTallies nD τ sig (HIx 1)} {W : Waits sig (HIx 1)}
    {s' s'' : Shape} {e' : EltTy} {sp' : Space} {srcw : Memref sig c.2.kind sp' s' e'} {dstw : Memref sig c.2.kind .hbm s'' .f32}
    (hN : dstw.view.dmaCredit = n)
    {hsrc : srcw.view.WordExact} {hdst : dstw.view.WordExact} {k : PUnit → Prog (TpuEff nD τ sig (Elt F) Λ c.2) α} :
    iprop((Transfers.MayWaits c (default : HIx 1) O ∗ owes c O W ∗ outFly EC c A B sm G n S)
        ∗ ((outFree c B sm ∗ (A.view.loc c ↦[S]{fullShare} G) ∗ owes c O (insert (SemLoc.dma sm, default) W))
          -∗ wp frame (wpE defs 𝒱 c bd) Set.univ (k ⟨⟩) Q))
      ⊢ wp frame (wpE defs 𝒱 c bd) Set.univ (.op (.waitDma2 sm srcw dstw hsrc hdst) k) Q := by
  unfold outFly outFree
  iintro ⟨⟨Hm, HO, HF⟩, Hk⟩
  ihave Hw := (Transfers.MayWaits.elim (.dma sm)) $$ Hm
  iapply (wp_waitLocalO EC 𝒱 c bd (default : HIx 1) hN) $$ [HF HO Hw]
  · isplitl [HF]; · iexact HF
    isplitl [HO]; · iexact HO
    iexact Hw
  iintro ⟨⟨Ha, Hf⟩, Hv, HO⟩
  iapply Hk
  isplitl [Hv Hf]
  · isplitl [Hv]; · iexact Hv
    iexact Hf
  isplitl [Ha]; · iexact Ha
  iexact HO

end Flush

end Cert.Proof.Tile
-- ==== Proof.Compute.lean ====
/-
  The tile's arithmetic. With a block of patches and a block of the table in staging, the body's two inner loops walk the
  block sixteen lanes at a time, row by row, and leave the sums in the result's slot.
-/
module

public import proofs.«01_k».proof.Proof.Slots

@[expose] public section

noncomputable section

namespace Cert.Proof.Tile

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} {U : Type} [URA U] [FloatOps F]

local notation "𝕄" => MT nD τ sig (HIx 1) (Elt F) ℕ U ℕ

/-! ## One group of sixteen lanes -/

/-- The lanes that row `a`, group `b` reads of a block of patches (and writes of a block of the result), and of the table. -/
abbrev lanes3 (a : Fin k1_t2_loop.trips) (b : Fin k1_t3_loop.trips) : Rect S1x16x768 :=
  Rect.unit (s := S1x16x768) (k1_off19 a b) S1x1x16.size (k1_off19_inb a b)
abbrev lanes2 (a : Fin k1_t2_loop.trips) (b : Fin k1_t3_loop.trips) : Rect S16x768 :=
  Rect.unit (s := S16x768) (k1_off21 a b) S1x16.size (k1_off21_inb a b)
abbrev lanesO (a : Fin k1_t2_loop.trips) (b : Fin k1_t3_loop.trips) : Rect S1x16x768 :=
  Rect.unit (s := S1x16x768) (k1_off23 a b) S1x1x16.size (k1_off23_inb a b)

/-- The sum of two groups of lanes is, lane by lane, the sum of the blocks they are read from. -/
theorem pay_lanes (P : S1x16x768.Idx → Elt F .f32) (Tb : S16x768.Idx → Elt F .f32) (a : Fin k1_t2_loop.trips) (b : Fin k1_t3_loop.trips)
    (j : S1x1x16.Idx) :
    k1_pay1 (F := F) (fun j => P ((lanes3 a b).emb j)) (fun j => Tb ((lanes2 a b).emb j)) j = wVal P Tb ((lanesO a b).emb j) := by
  have h1 : ∀ j : S1x1x16.Idx, (lanes3 a b).emb j = (lanesO a b).emb j := fun j => by
    refine Rect.emb_eq_of_coords _ _ _ fun ax => ?_
    show k1_off23 a b ax + 1 * (j ax).val = k1_off19 a b ax + 1 * (j ax).val
    rw [off23_eq, off19_eq]
  have h2 : ∀ l : S1x16.Idx, (l 1).val = (j 2).val → (lanes2 a b).emb l = ValueIdx.ix2 ((lanesO a b).emb j 1) ((lanesO a b).emb j 2) := fun l hl => by
    refine Rect.emb_eq_of_coords _ _ _ fun ax => ?_
    match ax with
    | 0 =>
      show k1_off23 a b 1 + 1 * (j 1).val = k1_off21 a b 0 + 1 * (l 0).val
      rw [off23_eq, off21_eq]
      have e1 : (j 1).val < 1 := (j 1).isLt
      have e2 : (l 0).val < 1 := (l 0).isLt
      show a.val + 1 * (j 1).val = a.val + 1 * (l 0).val
      omega
    | 1 =>
      show k1_off23 a b 2 + 1 * (j 2).val = k1_off21 a b 1 + 1 * (l 1).val
      rw [off23_eq, off21_eq, hl]; rfl
  have h3 : ∀ (h : S1x1x16.numel = S1x16.numel), (Shape.reshapeEquiv h j 1).val = (j 2).val := fun h => by
    rw [Shape.reshapeEquiv_eq_of_rowMajor h (x := j) (y := ValueIdx.ix2 (0 : Fin 1) (j 2)) ?_]
    rw [Shape.rowMajor_val_two, Shape.rowMajor_val_three]
    have e0 : (j 0).val < 1 := (j 0).isLt
    have e1 : (j 1).val < 1 := (j 1).isLt
    show 0 * 16 + (j 2).val = ((j 0).val * 1 + (j 1).val) * 16 + (j 2).val
    omega
  show FloatOps.addf (φ := .f32) (P ((lanes3 a b).emb (Shape.reshapeEquiv _ (Shape.reshapeEquiv _ j))))
    (Tb ((lanes2 a b).emb (Shape.reshapeEquiv _ (Shape.reshapeEquiv _ j)))) = _
  rw [Shape.reshapeEquiv_reshapeEquiv, Shape.reshapeEquiv_reshapeEquiv, Shape.reshapeEquiv_self, h2 _ (h3 _), h1]
  rfl

/-- The result's slot, holding `w` wherever `p` says. -/
def partly (c : Thread nD τ) {s : Shape} (B : Memref sig c.2.kind .vmem s .f32) (p : s.Idx → Prop) (w : s.Idx → Elt F .f32) : sProp 𝕄 :=
  iprop(∃ g, ⌜∀ y, p y → B.view.read (Elt F) g y = w y⌝ ∗ B.view.loc c ↦[B.view.set]{fullShare} g)

/-- Rows before `a`, and of row `a` the lanes before group `b`. -/
def before (a b : ℕ) (y : S1x16x768.Idx) : Prop := (y 1).val < a ∨ ((y 1).val = a ∧ (y 2).val < 16 * b)

section Loops

variable (d : Dev nD) (L : grid1.Coords)
variable (Pm Om : Memref sig .scVector .vmem S1x16x768 .f32) (Tm : Memref sig .scVector .vmem S16x768 .f32)
  (P : S1x16x768.Idx → Elt F .f32) (Tb : S16x768.Idx → Elt F .f32)
variable {Λ : Labels} {defs : Defs nD τ sig (Elt F) Λ} (𝒱 : Variants) (bd : Option 𝒱.V)

/-- What the loops carry: the two operands' blocks, and the result's slot as far as it has been written. -/
def summing (p : S1x16x768.Idx → Prop) : sProp 𝕄 :=
  iprop(held (thr d L) Pm P ∗ held (thr d L) Tm Tb ∗ partly (thr d L) Om p (wVal P Tb))

/-- The slot after one more group of lanes. -/
theorem lane_written (a : Fin k1_t2_loop.trips) (b : Fin k1_t3_loop.trips) (g : Buf (Elt F) (Om.view.loc (thr d L)))
    (hg : ∀ y, before a b y → Om.view.read (Elt F) g y = wVal P Tb y) :
    ∀ y, before a (b + 1) y → Om.view.read (Elt F) (Om.view.writes (Elt F) g
      [⟨lanesO a b, k1_pay1 (F := F) (fun j => P ((lanes3 a b).emb j)) (fun j => Tb ((lanes2 a b).emb j))⟩]) y = wVal P Tb y := by
  intro y hy
  have e0 : (y 0).val < 1 := (y 0).isLt
  by_cases h : (y 1).val = a.val ∧ 16 * b.val ≤ (y 2).val
  · have hlt : (y 2).val < 16 * (b.val + 1) := by
      rcases hy with hy | hy
      · omega
      · exact hy.2
    have hx : (lanesO a b).emb (ValueIdx.ix3 (0 : Fin 1) (0 : Fin 1) (⟨(y 2).val - 16 * b.val, by omega⟩ : Fin 16)) = y := by
      refine Rect.emb_eq_of_coords _ _ _ fun ax => ?_
      match ax with
      | 0 => show (y 0).val = k1_off23 a b 0 + 1 * 0; rw [off23_eq]; show (y 0).val = 0 + 1 * 0; omega
      | 1 => show (y 1).val = k1_off23 a b 1 + 1 * 0; rw [off23_eq]; show (y 1).val = a.val + 1 * 0; omega
      | 2 =>
        show (y 2).val = k1_off23 a b 2 + 1 * ((y 2).val - 16 * b.val); rw [off23_eq]
        show (y 2).val = 16 * b.val + 1 * ((y 2).val - 16 * b.val); omega
    rw [View.read_writes_cons_hit _ _ _ _ _ _ _ hx, pay_lanes, hx]
  · rw [View.read_writes_cons_miss]
    · refine hg y ?_
      rcases hy with hy | hy
      · exact .inl hy
      · exact .inr ⟨hy.1, by by_contra hc; exact h ⟨hy.1, by omega⟩⟩
    · by_cases h1 : (y 1).val = a.val
      · refine Rect.not_mem_set_of_axis _ y 2 (16 * b.val) 16 ?_ rfl rfl (.inl ?_)
        · show k1_off23 a b 2 = _; rw [off23_eq]; rfl
        · by_contra hc; exact h ⟨h1, by omega⟩
      · refine Rect.not_mem_set_of_axis _ y 1 a.val 1 ?_ rfl rfl ?_
        · show k1_off23 a b 1 = _; rw [off23_eq]; rfl
        · omega

/-- One group of lanes. -/
theorem wp_lane (a : Fin k1_t2_loop.trips) (b : Fin k1_t3_loop.trips) :
    (summing d L Pm Om Tm P Tb (before a b) : sProp 𝕄)
      ⊢ wp frame (wpE defs 𝒱 (thr d L) bd) Set.univ (do
          let u : Vec F S1x1x16 .f32 ← Prog.lift (.load Pm (Rect.unit (s := S1x16x768) (k1_off19 a b) S1x1x16.size (k1_off19_inb a b)).toLoadRect (View.loadsAt_vmem h_S1x1x16))
          let v : Vec F S1x16 .f32 ← Prog.lift (.load Tm (Rect.unit (s := S16x768) (k1_off21 a b) S1x16.size (k1_off21_inb a b)).toLoadRect (View.loadsAt_vmem h_S1x16))
          let _o : Vec F S1x1x16 .f32 ← Prog.lift (.load Om (Rect.unit (s := S1x16x768) (k1_off23 a b) S1x1x16.size (k1_off23_inb a b)).toLoadRect (View.loadsAt_vmem h_S1x1x16))
          Prog.lift (.store Om (Rect.unit (s := S1x16x768) (k1_off23 a b) S1x1x16.size (k1_off23_inb a b)) (k1_pay1 u v) Finset.univ (View.stores_vmem_bits_univ h_S1x1x16 rfl) (.inl rfl))
          (pure () : Prog (TpuEff nD τ sig (Elt F) Λ (thr d L).2) Unit))
        fun _ => summing d L Pm Om Tm P Tb (before a (b + 1)) := by
  unfold summing partly
  simp only [wp_bind, wp_pure, Prog.lift]
  iintro ⟨⟨%fP, %hP, HP⟩, ⟨%fT, %hT, HT⟩, ⟨%g, %hg, HO⟩⟩
  iapply (wp_load_rect 𝒱 (thr d L) bd Set.univ (m := Pm) (r := lanes3 a b) (S := Pm.view.set) (q := fullShare) (f := fP) (View.set_slice_subset Pm.view _)) $$ HP
  iintro HP
  rw [wp_ret]; imodintro
  iapply (wp_load_rect 𝒱 (thr d L) bd Set.univ (m := Tm) (r := lanes2 a b) (S := Tm.view.set) (q := fullShare) (f := fT) (View.set_slice_subset Tm.view _)) $$ HT
  iintro HT
  rw [wp_ret]; imodintro
  iapply (wp_load_rect 𝒱 (thr d L) bd Set.univ (m := Om) (r := lanesO a b) (S := Om.view.set) (q := fullShare) (f := g) (View.set_slice_subset Om.view _)) $$ HO
  iintro HO
  rw [wp_ret]; imodintro
  have e1 : (Pm.access (lanes3 a b)).read (Elt F) fP = fun j => P ((lanes3 a b).emb j) := by subst hP; rfl
  have e2 : (Tm.access (lanes2 a b)).read (Elt F) fT = fun j => Tb ((lanes2 a b).emb j) := by subst hT; rfl
  rw [e1, e2]
  iapply (wp_store_writes₀ 𝒱 (thr d L) bd Set.univ (m := Om) (r := lanesO a b) (S := Om.view.set) (f := g) (View.set_slice_subset Om.view _)) $$ HO
  iintro HO
  rw [wp_ret]; imodintro; imodintro
  isplitl [HP]
  · iexists fP
    isplitr; · ipureintro; exact hP
    iexact HP
  isplitl [HT]
  · iexists fT
    isplitr; · ipureintro; exact hT
    iexact HT
  iexists (Om.view.writes (Elt F) g [⟨lanesO a b, k1_pay1 (F := F) (fun j => P ((lanes3 a b).emb j)) (fun j => Tb ((lanes2 a b).emb j))⟩])
  isplitr
  · ipureintro
    exact lane_written d L Om P Tb a b g hg
  iexact HO

/-- All the groups of all the rows: the sums are in the slot. -/
theorem wp_sums {B2 : Fin k1_t2_loop.trips → Unit → Prog (TpuEff nD τ sig (Elt F) Λ (thr d L).2) Unit}
    {B3 : Fin k1_t2_loop.trips → Fin k1_t3_loop.trips → Unit → Prog (TpuEff nD τ sig (Elt F) Λ (thr d L).2) Unit}
    (h2 : ∀ a x, B2 a x = (Scf.Loop.for k1_t3_loop k1_t3_ok () (B3 a) >>= fun _ => pure ()))
    (h3 : ∀ a b x, B3 a b x = (do
      let u : Vec F S1x1x16 .f32 ← Prog.lift (.load Pm (Rect.unit (s := S1x16x768) (k1_off19 a b) S1x1x16.size (k1_off19_inb a b)).toLoadRect (View.loadsAt_vmem h_S1x1x16))
      let v : Vec F S1x16 .f32 ← Prog.lift (.load Tm (Rect.unit (s := S16x768) (k1_off21 a b) S1x16.size (k1_off21_inb a b)).toLoadRect (View.loadsAt_vmem h_S1x16))
      let _o : Vec F S1x1x16 .f32 ← Prog.lift (.load Om (Rect.unit (s := S1x16x768) (k1_off23 a b) S1x1x16.size (k1_off23_inb a b)).toLoadRect (View.loadsAt_vmem h_S1x1x16))
      Prog.lift (.store Om (Rect.unit (s := S1x16x768) (k1_off23 a b) S1x1x16.size (k1_off23_inb a b)) (k1_pay1 u v) Finset.univ (View.stores_vmem_bits_univ h_S1x1x16 rfl) (.inl rfl))
      (pure () : Prog (TpuEff nD τ sig (Elt F) Λ (thr d L).2) Unit))) :
    iprop(held (thr d L) Pm P ∗ held (thr d L) Tm Tb ∗ loose (thr d L) Om)
      ⊢ wp frame (wpE defs 𝒱 (thr d L) bd) Set.univ (Scf.Loop.for k1_t2_loop k1_t2_ok () B2)
        fun _ => iprop(held (thr d L) Pm P ∗ held (thr d L) Tm Tb ∗ held (thr d L) Om (wVal P Tb) : sProp 𝕄) := by
  have hrow : ∀ (a : Fin k1_t2_loop.trips) (x : Unit), (summing d L Pm Om Tm P Tb (before a 0) : sProp 𝕄)
      ⊢ wp frame (wpE defs 𝒱 (thr d L) bd) Set.univ (B2 a x) fun _ => summing d L Pm Om Tm P Tb (before (a.val + 1) 0) := fun a x => by
    rw [h2, wp_bind]
    iintro H
    iapply (Scf.wp_for _ _ _ k1_t3_loop.lb k1_t3_loop.ub k1_t3_loop.st k1_t3_ok () (B3 a) (fun b _ => summing d L Pm Om Tm P Tb (before a b))
      (fun b _ => by rw [h3]; exact wp_lane d L Pm Om Tm P Tb 𝒱 bd a b))
    isplitl [H]; · iexact H
    iintro %_ H
    rw [wp_pure]; imodintro
    unfold summing partly
    icases H with ⟨HP, HT, ⟨%g, %hg, HO⟩⟩
    isplitl [HP]; · iexact HP
    isplitl [HT]; · iexact HT
    iexists g
    isplitr
    · ipureintro
      intro y hy
      refine hg y ?_
      have hc : (y 2).val < 16 * Scf.trips k1_t3_loop.lb k1_t3_loop.ub k1_t3_loop.st := by
        rw [show Scf.trips k1_t3_loop.lb k1_t3_loop.ub k1_t3_loop.st = 48 by decide +kernel]
        exact (y 2).isLt
      unfold before at hy ⊢
      omega
    iexact HO
  iintro ⟨HP, HT, ⟨%g, HO⟩⟩
  iapply (Scf.wp_for _ _ _ k1_t2_loop.lb k1_t2_loop.ub k1_t2_loop.st k1_t2_ok () B2 (fun a _ => summing d L Pm Om Tm P Tb (before a 0)) hrow)
  isplitl [HP HT HO]
  · unfold summing partly
    isplitl [HP]; · iexact HP
    isplitl [HT]; · iexact HT
    iexists g
    isplitr; · ipureintro; intro y hy; unfold before at hy; omega
    iexact HO
  iintro %_ H
  unfold summing partly
  icases H with ⟨HP, HT, ⟨%g, %hg, HO⟩⟩
  isplitl [HP]; · iexact HP
  isplitl [HT]; · iexact HT
  iexists g
  isplitr
  · ipureintro
    exact funext fun y => hg y (.inl (show (y 1).val < 16 from (y 1).isLt))
  iexact HO

end Loops

end Cert.Proof.Tile
-- ==== Proof.Sites.lean ====
/-
  The places in a trip where the tile starts a transfer or waits for one, and the one where it computes. At each, the
  program names its slot, its block and its semaphore by offsets computed from the carried words; here each place is
  proved for any offsets that are the ones meant.
-/
module

public import proofs.«01_k».proof.Proof.Compute

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (MayWaits)

variable {F : FTy → Type} {U : Type} [URA U] [FloatOps F]

local notation "𝕄" => MT nD τ sig (HIx 1) (Elt F) ℕ U ℕ

/-! ## One tile's slots -/

variable (EC : UEmb Counters (MT nD τ sig (HIx 1) (Elt F) ℕ U ℕ)) [EC.LandsIn (upEmb : UEmb _ (MT nD τ sig (HIx 1) (Elt F) ℕ U ℕ))]
variable (d : Dev nD) (L : grid1.Coords)
-- the shares of the patches and of the table that each slot reads at, and what these hold
variable (qp qt : Fin 2 → PosShare TreeShare)
  (xa : S128x576x768.Idx → Elt F .f32) (xb : S576x768.Idx → Elt F .f32)

/-- Slot `n` of the patches: free, being filled with block `t`, holding block `t`. -/
def pFree (n : Fin 2) : sProp 𝕄 := inFree (thr d L) aM (slot4 pB n) (slotSem cc1_scoped1 n) (qp n) xa
def pFly (n : Fin 2) (t : ℕ) : sProp 𝕄 :=
  inFly EC (thr d L) aM (slot4 pB n) (slotSem cc1_scoped1 n) (qp n) xa (pBlk L t).view.set (pVal xa L t)
def pHave (n : Fin 2) (t : ℕ) : sProp 𝕄 := inHave (thr d L) aM (slot4 pB n) (slotSem cc1_scoped1 n) (qp n) xa (pVal xa L t)

/-- Slot `n` of the table, likewise. -/
def tFree (n : Fin 2) : sProp 𝕄 := inFree (thr d L) bM (slot3 tB n) (slotSem cc1_scoped3 n) (qt n) xb
def tFly (n : Fin 2) (t : ℕ) : sProp 𝕄 :=
  inFly EC (thr d L) bM (slot3 tB n) (slotSem cc1_scoped3 n) (qt n) xb (tBlk L t).view.set (tVal xb L t)
def tHave (n : Fin 2) (t : ℕ) : sProp 𝕄 := inHave (thr d L) bM (slot3 tB n) (slotSem cc1_scoped3 n) (qt n) xb (tVal xb L t)

/-- Slot `n` of the result: free, holding block `t`'s sums, being written out to block `t`. -/
def oFree (n : Fin 2) : sProp 𝕄 := outFree (thr d L) (slot4 oB n) (slotSem cc1_scoped5 n)
def oHave (n : Fin 2) (t : ℕ) : sProp 𝕄 :=
  outHave (thr d L) (slot4 oB n) (slotSem cc1_scoped5 n) (wVal (pVal xa L t) (tVal xb L t))
def oFly (n : Fin 2) (t : ℕ) : sProp 𝕄 :=
  outFly EC (thr d L) oM (slot4 oB n) (slotSem cc1_scoped5 n) (tailVal xa xb) (oBlk L t).view.dmaCredit (oBlk L t).view.set

/-- Block `t` of the result holding `G`. -/
def oPart (G : S32x576x768.Idx → Elt F .f32) (t : ℕ) : sProp 𝕄 := iprop(oM.view.loc (thr d L) ↦[(oBlk L t).view.set]{fullShare} G)

/-- What the thread owes, and that it has waited for nothing but its own copies since `W`. -/
def owing (O : CellTallies nD τ sig (HIx 1)) (W : Waits sig (HIx 1)) : sProp 𝕄 :=
  iprop(MayWaits (thr d L) (default : HIx 1) O ∗ ∃ W', ⌜∀ p ∈ W', p ∈ W ∨ p.2 = default⌝ ∗ owes (thr d L) O W')

variable {α : Type} {Q : α → sProp (MT nD τ sig (HIx 1) (Elt F) ℕ U ℕ)} {Λ : Labels} {defs : Defs nD τ sig (Elt F) Λ} (𝒱 : Variants) (bd : Option 𝒱.V)
variable {k : PUnit → Prog (TpuEff nD τ sig (Elt F) Λ (thr d L).2) α} {O : CellTallies nD τ sig (HIx 1)} {W : Waits sig (HIx 1)}

theorem block3_pos : 0 < S1x16x768.numel := by decide +kernel
theorem block2_pos : 0 < S16x768.numel := by decide +kernel

/-! ## Starting a fetch -/

theorem at_fetchP {n : Fin 2} {t : ℕ} {o1 : Fin 3 → ℕ} {o2 : Fin 4 → ℕ} {o3 : Fin 1 → ℕ}
    (h1 : o1 = ![96 + batchAt L t, rowAt L t, 0]) (h2 : o2 = ![n.val, 0, 0, 0]) (h3 : o3 = ![n.val])
    {i1 : ∀ a, o1 a + S1x16x768.size a ≤ S128x576x768.size a} {i2 : ∀ a, o2 a + S1x1x16x768.size a ≤ S2x1x16x768.size a}
    {i3 : ∀ a, o3 a + S1.size a ≤ S2.size a} {u1 u2} {hsrc hdst hsem} :
    iprop(pFree d L qp xa n ∗ (pFly EC d L qp xa n t -∗ wp frame (wpE defs 𝒱 (thr d L) bd) Set.univ (k ⟨⟩) Q))
      ⊢ wp frame (wpE defs 𝒱 (thr d L) bd) Set.univ (.op (.enqueueDma
          (aM.slice (Rect.unit (s := S128x576x768) o1 S1x16x768.size i1) u1)
          (.here ((pB.slice (Rect.unit (s := S2x1x16x768) o2 S1x1x16x768.size i2) u2).squeeze S1x16x768 squeezes_S1x1x16x768_S1x16x768))
          (.dma ((cc1_scoped1.slice (Rect.unit (s := S2) o3 S1.size i3)).squeeze S_ squeezes_S1_S_).sem) hsrc hdst hsem) k) Q := by
  subst h1 h2 h3
  exact wp_fetch EC (thr d L) aM (slotSem cc1_scoped1 n) (qp n) xa 𝒱 bd
    (Rect.unit (s := S128x576x768) ![96 + batchAt L t, rowAt L t, 0] S1x16x768.size (pBlk_inb L t)) (fun _ => rfl) (slot4 pB n) block3_pos

theorem at_fetchT {n : Fin 2} {t : ℕ} {o1 : Fin 2 → ℕ} {o2 : Fin 3 → ℕ} {o3 : Fin 1 → ℕ}
    (h1 : o1 = ![rowAt L t, 0]) (h2 : o2 = ![n.val, 0, 0]) (h3 : o3 = ![n.val])
    {i1 : ∀ a, o1 a + S16x768.size a ≤ S576x768.size a} {i2 : ∀ a, o2 a + S1x16x768.size a ≤ S2x16x768.size a}
    {i3 : ∀ a, o3 a + S1.size a ≤ S2.size a} {u1 u2} {hsrc hdst hsem} :
    iprop(tFree d L qt xb n ∗ (tFly EC d L qt xb n t -∗ wp frame (wpE defs 𝒱 (thr d L) bd) Set.univ (k ⟨⟩) Q))
      ⊢ wp frame (wpE defs 𝒱 (thr d L) bd) Set.univ (.op (.enqueueDma
          (bM.slice (Rect.unit (s := S576x768) o1 S16x768.size i1) u1)
          (.here ((tB.slice (Rect.unit (s := S2x16x768) o2 S1x16x768.size i2) u2).squeeze S16x768 squeezes_S1x16x768_S16x768))
          (.dma ((cc1_scoped3.slice (Rect.unit (s := S2) o3 S1.size i3)).squeeze S_ squeezes_S1_S_).sem) hsrc hdst hsem) k) Q := by
  subst h1 h2 h3
  exact wp_fetch EC (thr d L) bM (slotSem cc1_scoped3 n) (qt n) xb 𝒱 bd
    (Rect.unit (s := S576x768) ![rowAt L t, 0] S16x768.size (tBlk_inb L t)) (fun _ => rfl) (slot3 tB n) block2_pos

/-! ## Waiting for one -/

theorem at_fetchedP {n : Fin 2} {t : ℕ} {o2 : Fin 4 → ℕ} {o3 : Fin 1 → ℕ} (h3 : o3 = ![n.val])
    {i2 : ∀ a, o2 a + S1x1x16x768.size a ≤ S2x1x16x768.size a} {i3 : ∀ a, o3 a + S1.size a ≤ S2.size a} {u2}
    {s' : Shape} {e' : EltTy} {sp' : Space} {srcw : Memref sig (thr d L).2.kind sp' s' e'} {hsrc hdst} :
    iprop((pFly EC d L qp xa n t ∗ owing d L O W) ∗ ((pHave d L qp xa n t ∗ owing d L O W)
        -∗ wp frame (wpE defs 𝒱 (thr d L) bd) Set.univ (k ⟨⟩) Q))
      ⊢ wp frame (wpE defs 𝒱 (thr d L) bd) Set.univ (.op (.waitDma2
          ((cc1_scoped1.slice (Rect.unit (s := S2) o3 S1.size i3)).squeeze S_ squeezes_S1_S_).sem srcw
          ((pB.slice (Rect.unit (s := S2x1x16x768) o2 S1x1x16x768.size i2) u2).squeeze S1x16x768 squeezes_S1x1x16x768_S1x16x768) hsrc hdst) k) Q := by
  subst h3
  unfold owing pFly pHave
  iintro ⟨⟨HF, #Hm, ⟨%W', %hW, HO⟩⟩, Hk⟩
  iapply (wp_fetched EC (thr d L) aM (slot4 pB n) (slotSem cc1_scoped1 n) (qp n) xa 𝒱 bd (S := (pBlk L t).view.set) (w := pVal xa L t)
    (O := O) (W := W') (srcw := srcw)
    (dstw := (pB.slice (Rect.unit (s := S2x1x16x768) o2 S1x1x16x768.size i2) u2).squeeze S1x16x768 squeezes_S1x1x16x768_S1x16x768) rfl)
  isplitl [HF HO]
  · isplitr; · iexact Hm
    isplitl [HO]; · iexact HO
    iexact HF
  iintro ⟨HH, HO⟩
  iapply Hk
  isplitl [HH]; · iexact HH
  isplitr; · iexact Hm
  iexists (insert (SemLoc.dma (slotSem cc1_scoped1 n), default) W')
  isplitr
  · ipureintro
    intro p hp
    rcases Finset.mem_insert.1 hp with h | hp
    · exact .inr (congrArg Prod.snd h)
    · exact hW p hp
  iexact HO

theorem at_fetchedT {n : Fin 2} {t : ℕ} {o2 : Fin 3 → ℕ} {o3 : Fin 1 → ℕ} (h3 : o3 = ![n.val])
    {i2 : ∀ a, o2 a + S1x16x768.size a ≤ S2x16x768.size a} {i3 : ∀ a, o3 a + S1.size a ≤ S2.size a} {u2}
    {s' : Shape} {e' : EltTy} {sp' : Space} {srcw : Memref sig (thr d L).2.kind sp' s' e'} {hsrc hdst} :
    iprop((tFly EC d L qt xb n t ∗ owing d L O W) ∗ ((tHave d L qt xb n t ∗ owing d L O W)
        -∗ wp frame (wpE defs 𝒱 (thr d L) bd) Set.univ (k ⟨⟩) Q))
      ⊢ wp frame (wpE defs 𝒱 (thr d L) bd) Set.univ (.op (.waitDma2
          ((cc1_scoped3.slice (Rect.unit (s := S2) o3 S1.size i3)).squeeze S_ squeezes_S1_S_).sem srcw
          ((tB.slice (Rect.unit (s := S2x16x768) o2 S1x16x768.size i2) u2).squeeze S16x768 squeezes_S1x16x768_S16x768) hsrc hdst) k) Q := by
  subst h3
  unfold owing tFly tHave
  iintro ⟨⟨HF, #Hm, ⟨%W', %hW, HO⟩⟩, Hk⟩
  iapply (wp_fetched EC (thr d L) bM (slot3 tB n) (slotSem cc1_scoped3 n) (qt n) xb 𝒱 bd (S := (tBlk L t).view.set) (w := tVal xb L t)
    (O := O) (W := W') (srcw := srcw)
    (dstw := (tB.slice (Rect.unit (s := S2x16x768) o2 S1x16x768.size i2) u2).squeeze S16x768 squeezes_S1x16x768_S16x768) rfl)
  isplitl [HF HO]
  · isplitr; · iexact Hm
    isplitl [HO]; · iexact HO
    iexact HF
  iintro ⟨HH, HO⟩
  iapply Hk
  isplitl [HH]; · iexact HH
  isplitr; · iexact Hm
  iexists (insert (SemLoc.dma (slotSem cc1_scoped3 n), default) W')
  isplitr
  · ipureintro
    intro p hp
    rcases Finset.mem_insert.1 hp with h | hp
    · exact .inr (congrArg Prod.snd h)
    · exact hW p hp
  iexact HO

/-! ## Writing a block out -/

/-- The result's block of a trip is the sum of the trip's two operand blocks. -/
theorem blk_sum (t : ℕ) : (oBlk L t).view.read (Elt F) (tailVal xa xb) = wVal (pVal xa L t) (tVal xb L t) := by
  funext y
  show FloatOps.addf (φ := .f32) (xa _) (xb _) = FloatOps.addf (φ := .f32) (xa _) (xb _)
  refine congrArg₂ _ (congrArg xa (funext fun a => Fin.ext ?_)) (congrArg xb (funext fun a => Fin.ext ?_))
  · match a with
    | 0 => show batchAt L t + 1 * (y 0).val + 96 = 96 + batchAt L t + 1 * (y 0).val; omega
    | 1 => rfl
    | 2 => rfl
  · match a with
    | 0 => rfl
    | 1 => rfl

theorem at_flush {n : Fin 2} {t : ℕ} (f₀ : S32x576x768.Idx → Elt F .f32) {o1 : Fin 3 → ℕ} {o2 : Fin 4 → ℕ} {o3 : Fin 1 → ℕ}
    (h1 : o1 = ![batchAt L t, rowAt L t, 0]) (h2 : o2 = ![n.val, 0, 0, 0]) (h3 : o3 = ![n.val])
    {i1 : ∀ a, o1 a + S1x16x768.size a ≤ S32x576x768.size a} {i2 : ∀ a, o2 a + S1x1x16x768.size a ≤ S2x1x16x768.size a}
    {i3 : ∀ a, o3 a + S1.size a ≤ S2.size a} {u1 u2} {hsrc hdst hsem} :
    iprop((oHave d L xa xb n t ∗ oPart d L f₀ t)
        ∗ (oFly EC d L xa xb n t -∗ wp frame (wpE defs 𝒱 (thr d L) bd) Set.univ (k ⟨⟩) Q))
      ⊢ wp frame (wpE defs 𝒱 (thr d L) bd) Set.univ (.op (.enqueueDma
          ((oB.slice (Rect.unit (s := S2x1x16x768) o2 S1x1x16x768.size i2) u2).squeeze S1x16x768 squeezes_S1x1x16x768_S1x16x768)
          (.here (oM.slice (Rect.unit (s := S32x576x768) o1 S1x16x768.size i1) u1))
          (.dma ((cc1_scoped5.slice (Rect.unit (s := S2) o3 S1.size i3)).squeeze S_ squeezes_S1_S_).sem) hsrc hdst hsem) k) Q := by
  subst h1 h2 h3
  exact wp_flush EC (thr d L) oM (slotSem cc1_scoped5 n) (tailVal xa xb) 𝒱 bd
    (Rect.unit (s := S32x576x768) ![batchAt L t, rowAt L t, 0] S1x16x768.size (oBlk_inb L t)) (fun _ => rfl) (slot4 oB n) block3_pos f₀ (blk_sum L xa xb t)

theorem at_flushed {n : Fin 2} {t : ℕ} {o1 : Fin 3 → ℕ} {o3 : Fin 1 → ℕ} (h3 : o3 = ![n.val])
    {i1 : ∀ a, o1 a + S1x16x768.size a ≤ S32x576x768.size a} {i3 : ∀ a, o3 a + S1.size a ≤ S2.size a} {u1}
    {s' : Shape} {e' : EltTy} {sp' : Space} {srcw : Memref sig (thr d L).2.kind sp' s' e'} {hsrc hdst} :
    iprop((oFly EC d L xa xb n t ∗ owing d L O W) ∗ ((oFree d L n ∗ oPart d L (tailVal xa xb) t ∗ owing d L O W)
        -∗ wp frame (wpE defs 𝒱 (thr d L) bd) Set.univ (k ⟨⟩) Q))
      ⊢ wp frame (wpE defs 𝒱 (thr d L) bd) Set.univ (.op (.waitDma2
          ((cc1_scoped5.slice (Rect.unit (s := S2) o3 S1.size i3)).squeeze S_ squeezes_S1_S_).sem srcw
          (oM.slice (Rect.unit (s := S32x576x768) o1 S1x16x768.size i1) u1) hsrc hdst) k) Q := by
  subst h3
  unfold owing oFly oFree oPart
  iintro ⟨⟨HF, #Hm, ⟨%W', %hW, HO⟩⟩, Hk⟩
  iapply (wp_flushed EC (thr d L) oM (slot4 oB n) (slotSem cc1_scoped5 n) (tailVal xa xb) 𝒱 bd (n := (oBlk L t).view.dmaCredit)
    (S := (oBlk L t).view.set) (O := O) (W := W') (srcw := srcw)
    (dstw := oM.slice (Rect.unit (s := S32x576x768) o1 S1x16x768.size i1) u1) rfl)
  isplitl [HF HO]
  · isplitr; · iexact Hm
    isplitl [HO]; · iexact HO
    iexact HF
  iintro ⟨HH, HP, HO⟩
  iapply Hk
  isplitl [HH]; · iexact HH
  isplitl [HP]; · iexact HP
  isplitr; · iexact Hm
  iexists (insert (SemLoc.dma (slotSem cc1_scoped5 n), default) W')
  isplitr
  · ipureintro
    intro p hp
    rcases Finset.mem_insert.1 hp with h | hp
    · exact .inr (congrArg Prod.snd h)
    · exact hW p hp
  iexact HO

/-! ## Computing -/

theorem slot4_at (B : Memref sig .scVector .vmem S2x1x16x768 .f32) (n : Fin 2) {o : Fin 4 → ℕ} (h : o = ![n.val, 0, 0, 0])
    (i : ∀ a, o a + S1x1x16x768.size a ≤ S2x1x16x768.size a) (u) :
    (B.slice (Rect.unit (s := S2x1x16x768) o S1x1x16x768.size i) u).squeeze S1x16x768 squeezes_S1x1x16x768_S1x16x768 = slot4 B n := by
  subst h; rfl

theorem slot3_at (B : Memref sig .scVector .vmem S2x16x768 .f32) (n : Fin 2) {o : Fin 3 → ℕ} (h : o = ![n.val, 0, 0])
    (i : ∀ a, o a + S1x16x768.size a ≤ S2x16x768.size a) (u) :
    (B.slice (Rect.unit (s := S2x16x768) o S1x16x768.size i) u).squeeze S16x768 squeezes_S1x16x768_S16x768 = slot3 B n := by
  subst h; rfl

theorem at_sums {np nt : Fin 2} {t : ℕ} (Pm Om : Memref sig .scVector .vmem S1x16x768 .f32) (Tm : Memref sig .scVector .vmem S16x768 .f32)
    (hP : Pm = slot4 pB np) (hT : Tm = slot3 tB nt) (hO : Om = slot4 oB np)
    {B2 : Fin k1_t2_loop.trips → Unit → Prog (TpuEff nD τ sig (Elt F) Λ (thr d L).2) Unit}
    {B3 : Fin k1_t2_loop.trips → Fin k1_t3_loop.trips → Unit → Prog (TpuEff nD τ sig (Elt F) Λ (thr d L).2) Unit}
    (h2 : ∀ a x, B2 a x = (Scf.Loop.for k1_t3_loop k1_t3_ok () (B3 a) >>= fun _ => pure ()))
    (h3 : ∀ a b x, B3 a b x = (do
      let u : Vec F S1x1x16 .f32 ← Prog.lift (.load Pm (Rect.unit (s := S1x16x768) (k1_off19 a b) S1x1x16.size (k1_off19_inb a b)).toLoadRect (View.loadsAt_vmem h_S1x1x16))
      let v : Vec F S1x16 .f32 ← Prog.lift (.load Tm (Rect.unit (s := S16x768) (k1_off21 a b) S1x16.size (k1_off21_inb a b)).toLoadRect (View.loadsAt_vmem h_S1x16))
      let _o : Vec F S1x1x16 .f32 ← Prog.lift (.load Om (Rect.unit (s := S1x16x768) (k1_off23 a b) S1x1x16.size (k1_off23_inb a b)).toLoadRect (View.loadsAt_vmem h_S1x1x16))
      Prog.lift (.store Om (Rect.unit (s := S1x16x768) (k1_off23 a b) S1x1x16.size (k1_off23_inb a b)) (k1_pay1 u v) Finset.univ (View.stores_vmem_bits_univ h_S1x1x16 rfl) (.inl rfl))
      (pure () : Prog (TpuEff nD τ sig (Elt F) Λ (thr d L).2) Unit)))
    {R : Unit → sProp 𝕄} :
    iprop((pHave d L qp xa np t ∗ tHave d L qt xb nt t ∗ oFree d L np)
        ∗ ((pHave d L qp xa np t ∗ tHave d L qt xb nt t ∗ oHave d L xa xb np t) -∗ R ()))
      ⊢ wp frame (wpE defs 𝒱 (thr d L) bd) Set.univ (Scf.Loop.for k1_t2_loop k1_t2_ok () B2) R := by
  subst hP hT hO
  unfold pHave tHave oHave oFree inHave outHave outFree
  iintro ⟨⟨⟨Hp, Hp', Ha⟩, ⟨Ht, Ht', Hb⟩, ⟨Ho, Ho'⟩⟩, Hk⟩
  ihave Hw := (wp_sums d L (slot4 pB np) (slot4 oB np) (slot3 tB nt) (pVal xa L t) (tVal xb L t) 𝒱 bd h2 h3) $$ [Hp' Ht' Ho']
  · isplitl [Hp']; · iexact Hp'
    isplitl [Ht']; · iexact Ht'
    iexact Ho'
  iapply (wp_wand _ _ _) $$ Hw
  iintro %_ ⟨Hp', Ht', Ho'⟩
  iapply Hk
  isplitl [Hp Hp' Ha]
  · isplitl [Hp]; · iexact Hp
    isplitl [Hp']; · iexact Hp'
    iexact Ha
  isplitl [Ht Ht' Hb]
  · isplitl [Ht]; · iexact Ht
    isplitl [Ht']; · iexact Ht'
    iexact Hb
  isplitl [Ho]; · iexact Ho
  iexact Ho'

end Cert.Proof.Tile
-- ==== Proof.Trip.lean ====
/-
  One trip of the tile's pipeline. It asks for the next block of patches and, every fourth trip, for the next block of the
  table; it waits for its own; it computes the sums; it starts writing them out; it waits for the write of the trip before.
-/
module

public import proofs.«01_k».proof.Proof.Sites

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (MayWaits)

variable {F : FTy → Type} {U : Type} [URA U] [FloatOps F]

local notation "𝕄" => MT nD τ sig (HIx 1) (Elt F) ℕ U ℕ

variable (EC : UEmb Counters (MT nD τ sig (HIx 1) (Elt F) ℕ U ℕ)) [EC.LandsIn (upEmb : UEmb _ (MT nD τ sig (HIx 1) (Elt F) ℕ U ℕ))]
variable (d : Dev nD) (L : grid1.Coords)
variable (qp qt : Fin 2 → PosShare TreeShare)
  (xa : S128x576x768.Idx → Elt F .f32) (xb : S576x768.Idx → Elt F .f32) (f₀ : S32x576x768.Idx → Elt F .f32)
  (O : CellTallies nD τ sig (HIx 1)) (W : Waits sig (HIx 1))

/-! ## Between trips -/

/-- The slot of block `t` of the patches, if there is such a block, is being filled. -/
def pNext (t : ℕ) : sProp 𝕄 := if t < 36 then pFly EC d L qp xa (sl t) t else pFree d L qp xa (sl t)
/-- The table's block for trip `t`, when that trip is the first to need it, likewise. -/
def tNext (t : ℕ) : sProp 𝕄 := if t < 36 then tFly EC d L qt xb (sl (t / 4)) t else tFree d L qt xb (sl (t / 4))
/-- The table's block before trip `t`: on its way, or there from the trip before. -/
def tCur (t : ℕ) : sProp 𝕄 := if t % 4 = 0 then tNext EC d L qt xb t else tHave d L qt xb (sl (t / 4)) t
/-- The other slot of the table once the trip has asked for what comes next. -/
def tAsk (t : ℕ) : sProp 𝕄 := if t % 4 = 3 then tNext EC d L qt xb (t + 1) else tFree d L qt xb (sl (t / 4 + 1))
/-- The result's slot of the trip before. -/
def oPrev (t : ℕ) : sProp 𝕄 := if 1 ≤ t then oFly EC d L xa xb (sl (t + 1)) (t - 1) else oFree d L (sl (t + 1))
/-- What waiting for it gives back. -/
def oBack (t : ℕ) : sProp 𝕄 := if 1 ≤ t then oPart d L (tailVal xa xb) (t - 1) else iprop(emp)
/-- The result's blocks that no trip has written yet, and those that have been written. -/
def todo (t : ℕ) : sProp 𝕄 := BI.bigSep (Finset.Ico t 36) (oPart d L f₀)
def done (t : ℕ) : sProp 𝕄 := BI.bigSep (Finset.range t) (oPart d L (tailVal xa xb))

/-- The carried words before trip `t`. -/
abbrev words (t : ℕ) : BitVec 32 × BitVec 32 × BitVec 32 × BitVec 32 × BitVec 32 × BitVec 32 × BitVec 32 × BitVec 32 × BitVec 32 :=
  (w6 t, w7 t, w8 t, w9 t, w7 t, w11 t, 0#32, w13 t, w14 t)

/-- Everything the tile holds before trip `t`. -/
def Between (t : ℕ) (acc : BitVec 32 × BitVec 32 × BitVec 32 × BitVec 32 × BitVec 32 × BitVec 32 × BitVec 32 × BitVec 32 × BitVec 32) : sProp 𝕄 :=
  iprop(⌜acc = words t⌝
    ∗ (pNext EC d L qp xa t ∗ pFree d L qp xa (sl (t + 1)))
    ∗ (tCur EC d L qt xb t ∗ tFree d L qt xb (sl (t / 4 + 1)))
    ∗ (oPrev EC d L xa xb t ∗ oFree d L (sl t))
    ∗ (todo d L f₀ t ∗ done d L xa xb (t - 1))
    ∗ owing d L O W)

/-! ## Sequencing -/

/-- What a tile holds during a trip, the pieces in a fixed order: the patches' two slots, the table's, the result's, the
result's blocks, and what the thread owes. -/
def eight (p₁ p₂ t₁ t₂ o₁ o₂ b w : sProp 𝕄) : sProp 𝕄 := iprop(p₁ ∗ p₂ ∗ t₁ ∗ t₂ ∗ o₁ ∗ o₂ ∗ b ∗ w)

/-- A place of the trip that uses only the patches' second slot. -/
theorem place_p {p₁ p₂ t₁ t₂ o₁ o₂ b w X J G : sProp 𝕄} (hs : iprop((p₂) ∗ ((X) -∗ J)) ⊢ G)
    (hk : eight p₁ X t₁ t₂ o₁ o₂ b w ⊢ J) : eight p₁ p₂ t₁ t₂ o₁ o₂ b w ⊢ G := by
  unfold eight at *
  iintro ⟨H0, H1, H2, H3, H4, H5, H6, H7⟩
  iapply hs
  isplitl [H1]
  · iexact H1
  iintro H1
  iapply hk
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- One that uses only the table's second slot. -/
theorem place_t {p₁ p₂ t₁ t₂ o₁ o₂ b w X J G : sProp 𝕄} (hs : iprop((t₂) ∗ ((X) -∗ J)) ⊢ G)
    (hk : eight p₁ p₂ t₁ X o₁ o₂ b w ⊢ J) : eight p₁ p₂ t₁ t₂ o₁ o₂ b w ⊢ G := by
  unfold eight at *
  iintro ⟨H0, H1, H2, H3, H4, H5, H6, H7⟩
  iapply hs
  isplitl [H3]
  · iexact H3
  iintro H3
  iapply hk
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- One that waits for the patches' first slot. -/
theorem place_pw {p₁ p₂ t₁ t₂ o₁ o₂ b w X Y J G : sProp 𝕄} (hs : iprop((p₁ ∗ w) ∗ ((X ∗ Y) -∗ J)) ⊢ G)
    (hk : eight X p₂ t₁ t₂ o₁ o₂ b Y ⊢ J) : eight p₁ p₂ t₁ t₂ o₁ o₂ b w ⊢ G := by
  unfold eight at *
  iintro ⟨H0, H1, H2, H3, H4, H5, H6, H7⟩
  iapply hs
  isplitl [H0 H7]
  · isplitl [H0]; · iexact H0
    iexact H7
  iintro ⟨H0, H7⟩
  iapply hk
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- One that waits for the table's first slot. -/
theorem place_tw {p₁ p₂ t₁ t₂ o₁ o₂ b w X Y J G : sProp 𝕄} (hs : iprop((t₁ ∗ w) ∗ ((X ∗ Y) -∗ J)) ⊢ G)
    (hk : eight p₁ p₂ X t₂ o₁ o₂ b Y ⊢ J) : eight p₁ p₂ t₁ t₂ o₁ o₂ b w ⊢ G := by
  unfold eight at *
  iintro ⟨H0, H1, H2, H3, H4, H5, H6, H7⟩
  iapply hs
  isplitl [H2 H7]
  · isplitl [H2]; · iexact H2
    iexact H7
  iintro ⟨H2, H7⟩
  iapply hk
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The one that computes. -/
theorem place_sum {p₁ p₂ t₁ t₂ o₁ o₂ b w X Y Z J G : sProp 𝕄} (hs : iprop((p₁ ∗ t₁ ∗ o₂) ∗ ((X ∗ Y ∗ Z) -∗ J)) ⊢ G)
    (hk : eight X p₂ Y t₂ o₁ Z b w ⊢ J) : eight p₁ p₂ t₁ t₂ o₁ o₂ b w ⊢ G := by
  unfold eight at *
  iintro ⟨H0, H1, H2, H3, H4, H5, H6, H7⟩
  iapply hs
  isplitl [H0 H2 H5]
  · isplitl [H0]; · iexact H0
    isplitl [H2]; · iexact H2
    iexact H5
  iintro ⟨H0, H2, H5⟩
  iapply hk
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- One that writes from the result's second slot to one of the blocks. -/
theorem place_o {p₁ p₂ t₁ t₂ o₁ o₂ b w X Y J G : sProp 𝕄} (hs : iprop((o₂ ∗ b) ∗ ((X ∗ Y) -∗ J)) ⊢ G)
    (hk : eight p₁ p₂ t₁ t₂ o₁ X Y w ⊢ J) : eight p₁ p₂ t₁ t₂ o₁ o₂ b w ⊢ G := by
  unfold eight at *
  iintro ⟨H0, H1, H2, H3, H4, H5, H6, H7⟩
  iapply hs
  isplitl [H5 H6]
  · isplitl [H5]; · iexact H5
    iexact H6
  iintro ⟨H5, H6⟩
  iapply hk
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- One that waits for the result's first slot, which gives a block back. -/
theorem place_ow {p₁ p₂ t₁ t₂ o₁ o₂ b w X Y Z J G : sProp 𝕄} (hs : iprop((o₁ ∗ b ∗ w) ∗ ((X ∗ Y ∗ Z) -∗ J)) ⊢ G)
    (hk : eight p₁ p₂ t₁ t₂ X o₂ Y Z ⊢ J) : eight p₁ p₂ t₁ t₂ o₁ o₂ b w ⊢ G := by
  unfold eight at *
  iintro ⟨H0, H1, H2, H3, H4, H5, H6, H7⟩
  iapply hs
  isplitl [H4 H6 H7]
  · isplitl [H4]; · iexact H4
    isplitl [H6]; · iexact H6
    iexact H7
  iintro ⟨H4, H6, H7⟩
  iapply hk
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem between_eight (t : ℕ) (acc) : Between EC d L qp qt xa xb f₀ O W t acc
    ⊢ eight (pNext EC d L qp xa t) (pFree d L qp xa (sl (t + 1))) (tCur EC d L qt xb t)
      (tFree d L qt xb (sl (t / 4 + 1))) (oPrev EC d L xa xb t) (oFree d L (sl t)) iprop(todo d L f₀ t ∗ done d L xa xb (t - 1))
      (owing d L O W) := by
  unfold Between eight
  iintro ⟨-, ⟨H0, H1⟩, ⟨H2, H3⟩, ⟨H4, H5⟩, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- A place whose condition fails does nothing. -/
theorem at_skip {A J : sProp 𝕄} : iprop(A ∗ (A -∗ J)) ⊢ J := by
  iintro ⟨HA, Hk⟩
  iapply Hk
  iexact HA

variable {α : Type} {Λ : Labels} {defs : Defs nD τ sig (Elt F) Λ} (𝒱 : Variants) (bd : Option 𝒱.V)

/-- A stretch that only computes. What it computes is kept as an equation. -/
theorem at_pure {c : Thread nD τ} {X : sProp 𝕄} {Q : α → sProp 𝕄} {p : Prog (TpuEff nD τ sig (Elt F) Λ c.2) α} {r : α} (h : p = pure r)
    (hX : ∀ r', r' = r → X ⊢ Q r') : X ⊢ wp frame (wpE defs 𝒱 c bd) Set.univ p Q := by
  rw [h, wp_pure]
  iintro H
  imodintro
  iapply (hX r rfl)
  iexact H

/-- Whatever follows, first under a name. -/
theorem at_cut {c : Thread nD τ} {X : sProp 𝕄} {Q : α → sProp 𝕄} {p : Prog (TpuEff nD τ sig (Elt F) Λ c.2) α}
    (h : ∀ Q', Q' = Q → X ⊢ wp frame (wpE defs 𝒱 c bd) Set.univ p Q') : X ⊢ wp frame (wpE defs 𝒱 c bd) Set.univ p Q := h Q rfl

/-- A check that holds. -/
theorem at_check {c : Thread nD τ} {X : sProp 𝕄} {P : Prop} {dec : Decidable P} (h : P) {Q : PLift P → sProp 𝕄} (hX : X ⊢ Q ⟨h⟩) :
    X ⊢ wp frame (wpE defs 𝒱 c bd) Set.univ (Prog.lift (.assume P dec) : Prog (TpuEff nD τ sig (Elt F) Λ c.2) (PLift P)) Q := by
  rw [Prog.lift, wp_assume_of 𝒱 c bd Set.univ h, wp_ret]
  iintro H
  imodintro
  iapply hX
  iexact H

/-! ## The blocks of the result, one at a time -/

theorem todo_cons {t : ℕ} (ht : t < 36) : (todo d L f₀ t : sProp 𝕄) = iprop(oPart d L f₀ t ∗ todo d L f₀ (t + 1)) := by
  unfold todo
  rw [show Finset.Ico t 36 = insert t (Finset.Ico (t + 1) 36) from (Finset.insert_Ico_add_one_left_eq_Ico ht).symm,
    SparseCore.bigSep_insert' (by simp)]

theorem done_cons (t : ℕ) : (done d L xa xb (t + 1) : sProp 𝕄) = iprop(oPart d L (tailVal xa xb) t ∗ done d L xa xb t) := by
  unfold done
  rw [Finset.range_add_one, SparseCore.bigSep_insert' (by simp)]

variable {Q : α → sProp (MT nD τ sig (HIx 1) (Elt F) ℕ U ℕ)} {k : PUnit → Prog (TpuEff nD τ sig (Elt F) Λ (thr d L).2) α}

theorem at_flush_next {D : sProp 𝕄} {n : Fin 2} {t : ℕ} (ht : t < 36) {o1 : Fin 3 → ℕ} {o2 : Fin 4 → ℕ} {o3 : Fin 1 → ℕ}
    (h1 : o1 = ![batchAt L t, rowAt L t, 0]) (h2 : o2 = ![n.val, 0, 0, 0]) (h3 : o3 = ![n.val])
    {i1 : ∀ a, o1 a + S1x16x768.size a ≤ S32x576x768.size a} {i2 : ∀ a, o2 a + S1x1x16x768.size a ≤ S2x1x16x768.size a}
    {i3 : ∀ a, o3 a + S1.size a ≤ S2.size a} {u1 u2} {hsrc hdst hsem} :
    iprop((oHave d L xa xb n t ∗ todo d L f₀ t ∗ D)
        ∗ ((oFly EC d L xa xb n t ∗ todo d L f₀ (t + 1) ∗ D) -∗ wp frame (wpE defs 𝒱 (thr d L) bd) Set.univ (k ⟨⟩) Q))
      ⊢ wp frame (wpE defs 𝒱 (thr d L) bd) Set.univ (.op (.enqueueDma
          ((oB.slice (Rect.unit (s := S2x1x16x768) o2 S1x1x16x768.size i2) u2).squeeze S1x16x768 squeezes_S1x1x16x768_S1x16x768)
          (.here (oM.slice (Rect.unit (s := S32x576x768) o1 S1x16x768.size i1) u1))
          (.dma ((cc1_scoped5.slice (Rect.unit (s := S2) o3 S1.size i3)).squeeze S_ squeezes_S1_S_).sem) hsrc hdst hsem) k) Q := by
  rw [todo_cons d L f₀ ht]
  iintro ⟨⟨HB, ⟨Hb, Hr⟩, HD⟩, Hk⟩
  iapply (at_flush EC d L xa xb 𝒱 bd f₀ h1 h2 h3)
  isplitl [HB Hb]
  · isplitl [HB]; · iexact HB
    iexact Hb
  iintro HF
  iapply Hk
  isplitl [HF]; · iexact HF
  isplitl [Hr]; · iexact Hr
  iexact HD

theorem at_flushed_last {D : sProp 𝕄} {n : Fin 2} {t : ℕ} {o1 : Fin 3 → ℕ} {o3 : Fin 1 → ℕ} (h3 : o3 = ![n.val])
    {i1 : ∀ a, o1 a + S1x16x768.size a ≤ S32x576x768.size a} {i3 : ∀ a, o3 a + S1.size a ≤ S2.size a} {u1}
    {s' : Shape} {e' : EltTy} {sp' : Space} {srcw : Memref sig (thr d L).2.kind sp' s' e'} {hsrc hdst} :
    iprop((oFly EC d L xa xb n t ∗ (D ∗ done d L xa xb t) ∗ owing d L O W)
        ∗ ((oFree d L n ∗ (D ∗ done d L xa xb (t + 1)) ∗ owing d L O W) -∗ wp frame (wpE defs 𝒱 (thr d L) bd) Set.univ (k ⟨⟩) Q))
      ⊢ wp frame (wpE defs 𝒱 (thr d L) bd) Set.univ (.op (.waitDma2
          ((cc1_scoped5.slice (Rect.unit (s := S2) o3 S1.size i3)).squeeze S_ squeezes_S1_S_).sem srcw
          (oM.slice (Rect.unit (s := S32x576x768) o1 S1x16x768.size i1) u1) hsrc hdst) k) Q := by
  rw [done_cons d L xa xb t]
  iintro ⟨⟨HF, ⟨HD, Hd⟩, HO⟩, Hk⟩
  iapply (at_flushed EC d L xa xb 𝒱 bd (t := t) (O := O) (W := W) h3)
  isplitl [HF HO]
  · isplitl [HF]; · iexact HF
    iexact HO
  iintro ⟨HF, Hb, HO⟩
  iapply Hk
  isplitl [HF]; · iexact HF
  isplitl [HD Hb Hd]
  · isplitl [HD]; · iexact HD
    isplitl [Hb]; · iexact Hb
    iexact Hd
  iexact HO

/-- What a trip leaves is what the next one starts from. -/
theorem eight_between {t : ℕ} {acc} (hacc : acc = words (t + 1)) :
    eight (pHave d L qp xa (sl t) t) (pNext EC d L qp xa (t + 1)) (tHave d L qt xb (sl (t / 4)) t) (tAsk EC d L qt xb t)
      (oFree d L (sl (t + 1))) (oFly EC d L xa xb (sl t) t) iprop(todo d L f₀ (t + 1) ∗ done d L xa xb t) (owing d L O W)
    ⊢ Between EC d L qp qt xa xb f₀ O W (t + 1) acc := by
  have hT : iprop(tHave d L qt xb (sl (t / 4)) t ∗ tAsk EC d L qt xb t : sProp 𝕄)
      ⊢ iprop(tCur EC d L qt xb (t + 1) ∗ tFree d L qt xb (sl ((t + 1) / 4 + 1))) := by
    unfold tCur tAsk
    by_cases h : t % 4 = 3
    · rw [if_pos h, if_pos (show (t + 1) % 4 = 0 by omega), show (t + 1) / 4 + 1 = t / 4 + 2 by omega, sl_add_two]
      iintro ⟨H1, H2⟩
      isplitl [H2]; · iexact H2
      unfold tHave tFree
      iapply (inHave_free (thr d L) bM (slot3 tB (sl (t / 4))) (slotSem cc1_scoped3 (sl (t / 4))) (qt (sl (t / 4))) xb (tVal xb L t)) $$ H1
    · rw [if_neg h, if_neg (show ¬ (t + 1) % 4 = 0 by omega), show (t + 1) / 4 = t / 4 by omega]
      unfold tHave
      rw [show tVal xb L (t + 1) = tVal xb L t by
        rw [← tVal_div xb L (t + 1), ← tVal_div xb L t, show (t + 1) / 4 = t / 4 by omega]]
  unfold Between eight
  iintro ⟨H0, H1, H2, H3, H4, H5, H6, H7⟩
  isplitr; · ipureintro; exact hacc
  isplitl [H0 H1]
  · isplitl [H1]; · iexact H1
    rw [show t + 1 + 1 = t + 2 from rfl, sl_add_two]
    unfold pHave pFree
    iapply (inHave_free (thr d L) aM (slot4 pB (sl t)) (slotSem cc1_scoped1 (sl t)) (qp (sl t)) xa (pVal xa L t)) $$ H0
  isplitl [H2 H3]
  · iapply hT
    isplitl [H2]; · iexact H2
    iexact H3
  isplitl [H4 H5]
  · isplitl [H5]
    · unfold oPrev
      rw [if_pos (Nat.le_add_left 1 t), show t + 1 + 1 = t + 2 from rfl, sl_add_two, Nat.add_sub_cancel]
      iexact H5
    iexact H4
  isplitl [H6]
  · rw [Nat.add_sub_cancel]
    iexact H6
  iexact H7

/-! ## The trip -/

set_option maxHeartbeats 4000000

theorem trip (t : Fin k1_t1_loop.trips) (v8 v90 v92 : BitVec 32) :
    Between EC d L qp qt xa xb f₀ O W t (words t)
      ⊢ wp frame (wpE defs₀ 𝒱 (thr d L) bd) Set.univ
        (k1_t1_body (F := F) L aM (Memref.isWhole_whole _) bM (Memref.isWhole_whole _) oM (Memref.isWhole_whole _) pB (Memref.isWhole_whole _) cc1_scoped1 tB (Memref.isWhole_whole _) cc1_scoped3 oB (Memref.isWhole_whole _) cc1_scoped5 (tileW L) v8 v90 8#32 v92 0#32
          t (words t)) (Between EC d L qp qt xa xb f₀ O W (t.val + 1)) := by
  have ht : t.val < 36 := t.isLt
  unfold k1_t1_body
  dsimp -zeta only [words]
  rw [wp_bind]
  simp -zeta only [k1_part15_eq_skeleton]
  unfold k1_part15_skel
  simp -zeta only [wp_bind]
  -- the checks
  simp -zeta only [k1_part5_eq_skeleton]
  unfold k1_part5_skel
  simp only [wp_bind]
  refine at_check 𝒱 bd (chk4_holds t) ?_
  refine at_check 𝒱 bd (chk3_holds t) ?_
  refine at_check 𝒱 bd (chk2_holds t) ?_
  refine at_check 𝒱 bd (chk1_holds L t) ?_
  refine at_pure 𝒱 bd rfl fun r5 h5 => ?_
  refine at_pure 𝒱 bd rfl fun r6 h6 => ?_
  refine at_pure 𝒱 bd rfl fun r7 h7 => ?_
  -- the resources, in order
  refine (between_eight EC d L qp qt xa xb f₀ O W t _).trans ?_
  -- the next block of patches
  simp -zeta only [k1_part8_eq_skeleton]
  unfold k1_part8_skel
  refine at_cut 𝒱 bd fun Q8 hQ8 => ?_
  dsimp only
  apply place_p (X := pNext EC d L qp xa (t + 1))
  case hs =>
    unfold pNext
    by_cases h : t.val < 35
    · rw [dif_pos ((cond1_iff L t).2 h), if_pos (show t.val + 1 < 36 by omega), wp_bind]
      refine at_pure 𝒱 bd rfl fun _ _ => ?_
      exact at_fetchP EC d L qp xa 𝒱 bd (off7_eq L t h) (off6_eq t h) (off8_eq t h)
    · rw [dif_neg (fun hc => h ((cond1_iff L t).1 hc)), if_neg (show ¬ t.val + 1 < 36 by omega)]
      exact at_skip
  refine at_pure 𝒱 bd rfl fun r8 h8 => ?_
  subst hQ8
  -- the next block of the table
  simp -zeta only [k1_part9_eq_skeleton]
  unfold k1_part9_skel
  refine at_cut 𝒱 bd fun Q9 hQ9 => ?_
  dsimp only
  apply place_t (X := tAsk EC d L qt xb t)
  case hs =>
    unfold tAsk tNext
    by_cases h : t.val < 35 ∧ t.val % 4 = 3
    · rw [dif_pos ((cond2_iff L t).2 h), if_pos h.2, if_pos (show t.val + 1 < 36 by omega),
        show (t.val + 1) / 4 = t.val / 4 + 1 by omega]
      exact at_fetchT EC d L qt xb 𝒱 bd (off10_eq L t h.1) (off9_eq t h.1) (off11_eq t h.1)
    · rw [dif_neg (fun hc => h ((cond2_iff L t).1 hc))]
      by_cases h3 : t.val % 4 = 3
      · rw [if_pos h3, if_neg (show ¬ t.val + 1 < 36 by omega), show (t.val + 1) / 4 = t.val / 4 + 1 by omega]
        exact at_skip
      · rw [if_neg h3]
        exact at_skip
  refine at_pure 𝒱 bd rfl fun r9 h9 => ?_
  subst hQ9
  refine at_pure 𝒱 bd rfl fun r10 h10 => ?_
  refine at_pure 𝒱 bd rfl fun r11 h11 => ?_
  -- this trip's block of patches
  simp -zeta only [k1_part12_eq_skeleton]
  unfold k1_part12_skel
  refine at_cut 𝒱 bd fun Q12 hQ12 => ?_
  dsimp only
  apply place_pw (X := pHave d L qp xa (sl t) t) (Y := owing d L O W)
  case hs =>
    rw [dif_pos (cond3_true L t), wp_bind]
    refine at_pure 𝒱 bd rfl fun _ _ => ?_
    unfold pNext
    rw [if_pos ht]
    exact at_fetchedP EC d L qp xa 𝒱 bd (off14_eq t)
  -- its block of the table
  apply place_tw (X := tHave d L qt xb (sl (t.val / 4)) t) (Y := owing d L O W)
  case hs =>
    unfold tCur tNext
    by_cases h : t.val % 4 = 0
    · rw [dif_pos ((cond4_iff L t).2 h), if_pos h, if_pos ht]
      exact at_fetchedT EC d L qt xb 𝒱 bd (off17_eq t)
    · rw [dif_neg (fun hc => h ((cond4_iff L t).1 hc)), if_neg h]
      exact at_skip
  refine at_pure 𝒱 bd rfl fun r12 h12 => ?_
  subst hQ12
  refine at_pure 𝒱 bd (by simp only [k1_part13_eq_skeleton, k1_part13_skel, ite_self]; rfl) fun r13 h13 => ?_
  -- the sums
  simp -zeta only [k1_part14_eq_skeleton]
  unfold k1_part14_skel
  refine at_cut 𝒱 bd fun Q14 hQ14 => ?_
  dsimp only
  rw [wp_bind]
  refine place_sum (at_sums d L qp qt xa xb 𝒱 bd (np := sl t) (nt := sl (t.val / 4)) (t := t) _ _ _
    (slot4_at pB (sl t) (off18_eq t) _ _) (slot3_at tB (sl (t.val / 4)) (off20_eq t) _ _) (slot4_at oB (sl t) (off22_eq t) _ _)
    (fun _ _ => rfl) (fun _ _ _ => rfl)) ?_
  simp only [ite_self]
  -- they start on their way out
  apply place_o (X := oFly EC d L xa xb (sl t) t) (Y := iprop(todo d L f₀ (t + 1) ∗ done d L xa xb (t - 1)))
  case hs =>
    rw [dif_pos (cond8_true L t), wp_bind]
    refine at_pure 𝒱 bd rfl fun _ _ => ?_
    exact at_flush_next EC d L xa xb f₀ 𝒱 bd ht (off25_eq L t) (off24_eq t) (off26_eq t)
  refine at_pure 𝒱 bd rfl fun r14 h14 => ?_
  subst hQ14
  -- the write of the trip before
  refine at_cut 𝒱 bd fun Q15 hQ15 => ?_
  dsimp only
  apply place_ow (X := oFree d L (sl (t + 1))) (Y := iprop(todo d L f₀ (t + 1) ∗ done d L xa xb t)) (Z := owing d L O W)
  case hs =>
    unfold oPrev
    by_cases h : 1 ≤ t.val
    · rw [dif_pos ((cond11_iff L t).2 h), if_pos h, wp_bind]
      refine at_pure 𝒱 bd rfl fun _ _ => ?_
      have e : done d L xa xb t.val = (done d L xa xb (t.val - 1 + 1) : sProp 𝕄) := by rw [Nat.sub_add_cancel h]
      rw [e]
      exact at_flushed_last EC d L xa xb O W 𝒱 bd (off29_eq t h)
    · rw [dif_neg (fun hc => h ((cond11_iff L t).1 hc)), if_neg h, show t.val - 1 = t.val by omega]
      exact at_skip
  refine at_pure 𝒱 bd rfl fun r15 h15 => ?_
  subst hQ15
  refine at_pure 𝒱 bd rfl fun r hr => ?_
  refine eight_between EC d L qp qt xa xb f₀ O W ?_
  subst hr h15 h14 h13 h12 h11 h10 h9 h8 h7 h6 h5
  simp only [words, Prod.mk.injEq]
  clear ht
  revert t
  revert L
  refine forall_tile ?_
  set_option synthInstance.maxHeartbeats 0 in
  set_option synthInstance.maxSize 100000 in
  decide +kernel

end Cert.Proof.Tile
-- ==== Proof.Body.lean ====
/-
  A tile's whole program: it starts the first fetches, makes the 36 trips, and waits for the last write.
-/
module

public import proofs.«01_k».proof.Proof.Trip

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (MayWaits)

variable {F : FTy → Type} {U : Type} [URA U] [FloatOps F]

local notation "𝕄" => MT nD τ sig (HIx 1) (Elt F) ℕ U ℕ

variable (EC : UEmb Counters (MT nD τ sig (HIx 1) (Elt F) ℕ U ℕ)) [EC.LandsIn (upEmb : UEmb _ (MT nD τ sig (HIx 1) (Elt F) ℕ U ℕ))]
variable (d : Dev nD) (L : grid1.Coords)
variable (qp qt : Fin 2 → PosShare TreeShare)
  (xa : S128x576x768.Idx → Elt F .f32) (xb : S576x768.Idx → Elt F .f32) (f₀ : S32x576x768.Idx → Elt F .f32)
  (O : CellTallies nD τ sig (HIx 1)) (W : Waits sig (HIx 1))

/-- What a tile holds at its start and at its end: both slots of each buffer free, and the result's blocks. -/
def idle (blocks : sProp 𝕄) : sProp 𝕄 :=
  eight (pFree d L qp xa 0) (pFree d L qp xa 1) (tFree d L qt xb 0) (tFree d L qt xb 1) (oFree d L 0) (oFree d L 1) blocks (owing d L O W)

/-- The second slots first: the first fetches fill the first. -/
theorem slots_swap (blocks : sProp 𝕄) : idle d L qp qt xa xb O W blocks
    ⊢ eight (pFree d L qp xa 1) (pFree d L qp xa 0) (tFree d L qt xb 1) (tFree d L qt xb 0) (oFree d L 0) (oFree d L 1) blocks (owing d L O W) := by
  unfold idle eight
  iintro ⟨H0, H1, H2, H3, H4, H5, H6, H7⟩
  isplitl [H1]; · iexact H1
  isplitl [H0]; · iexact H0
  isplitl [H3]; · iexact H3
  isplitl [H2]; · iexact H2
  isplitl [H4]; · iexact H4
  isplitl [H5]; · iexact H5
  isplitl [H6]; · iexact H6
  iexact H7

theorem slots_back (blocks : sProp 𝕄) :
    eight (pFree d L qp xa 0) (pFree d L qp xa 1) (tFree d L qt xb 0) (tFree d L qt xb 1) (oFree d L 1) (oFree d L 0) blocks (owing d L O W)
      ⊢ idle d L qp qt xa xb O W blocks := by
  unfold idle
  unfold eight
  iintro ⟨H0, H1, H2, H3, H4, H5, H6, H7⟩
  isplitl [H0]; · iexact H0
  isplitl [H1]; · iexact H1
  isplitl [H2]; · iexact H2
  isplitl [H3]; · iexact H3
  isplitl [H5]; · iexact H5
  isplitl [H4]; · iexact H4
  isplitl [H6]; · iexact H6
  iexact H7

theorem trips_eq : k1_t1_loop.trips = 36 := by decide +kernel

/-- Once the first two fetches are under way, the tile is before its first trip. -/
theorem first_trip : eight (pFree d L qp xa 1) (pFly EC d L qp xa 0 0) (tFree d L qt xb 1) (tFly EC d L qt xb 0 0) (oFree d L 0) (oFree d L 1)
      (todo d L f₀ 0) (owing d L O W)
    ⊢ Between EC d L qp qt xa xb f₀ O W 0 (words 0) := by
  unfold Between eight pNext tCur tNext oPrev
  simp only [if_pos (by decide : 0 < 36), if_pos (by decide : 0 % 4 = 0), if_true]
  rw [if_neg (by decide : ¬ 1 ≤ 0),
    show (done d L xa xb (0 - 1) : sProp 𝕄) = iprop(emp) from by unfold done; rw [Nat.zero_sub, Finset.range_zero]; exact BI.bigSep_empty]
  iintro ⟨H1, H0, H3, H2, H4, H5, H6, H7⟩
  isplitr; · ipureintro; exact trivial
  isplitl [H0 H1]
  · isplitl [H0]; · iexact H0
    iexact H1
  isplitl [H2 H3]
  · isplitl [H2]; · iexact H2
    iexact H3
  isplitl [H4 H5]
  · isplitl [H5]; · iexact H5
    iexact H4
  isplitl [H6]
  · isplitl [H6]; · iexact H6
    iempintro
  iexact H7

/-- After the last trip only the last write is under way. -/
theorem last_trip (acc) : Between EC d L qp qt xa xb f₀ O W 36 acc
    ⊢ iprop(⌜acc = words 36⌝ ∗ eight (pFree d L qp xa 0) (pFree d L qp xa 1) (tFree d L qt xb 0) (tFree d L qt xb 1)
        (oFly EC d L xa xb 1 35) (oFree d L 0) iprop(emp ∗ done d L xa xb 35) (owing d L O W)) := by
  unfold Between eight pNext tCur tNext oPrev
  simp only [if_neg (by decide : ¬ 36 < 36), if_pos (by decide : 36 % 4 = 0), if_true]
  rw [if_pos (by decide : 1 ≤ 36)]
  iintro ⟨Ha, ⟨H0, H1⟩, ⟨H2, H3⟩, ⟨H4, H5⟩, ⟨-, H6⟩, H7⟩
  isplitl [Ha]; · iexact Ha
  isplitl [H0]; · iexact H0
  isplitl [H1]; · iexact H1
  isplitl [H3]; · iexact H3
  isplitl [H2]; · iexact H2
  isplitl [H4]; · iexact H4
  isplitl [H5]; · iexact H5
  isplitl [H6]
  · isplitr; · iempintro
    iexact H6
  iexact H7

/-- What follows the last trip. -/
theorem at_last (acc) {G : sProp 𝕄}
    (h : acc = words 36 → eight (pFree d L qp xa 0) (pFree d L qp xa 1) (tFree d L qt xb 0) (tFree d L qt xb 1)
        (oFly EC d L xa xb 1 35) (oFree d L 0) iprop(emp ∗ done d L xa xb 35) (owing d L O W) ⊢ G) :
    Between EC d L qp qt xa xb f₀ O W 36 acc ⊢ G := by
  refine (last_trip EC d L qp qt xa xb f₀ O W acc).trans ?_
  iintro ⟨%hacc, H⟩
  iapply (h hacc)
  iexact H

/-- A loop's invariant at its start, and what follows from it at the end. -/
theorem at_loop {σ : Type} {I : sProp 𝕄} {J Q : σ → sProp 𝕄} (h : ∀ acc, J acc ⊢ Q acc) : I ⊢ iprop(I ∗ (∀ acc, J acc -∗ Q acc)) := by
  iintro H
  isplitl [H]; · iexact H
  iintro %acc H
  iapply (h acc)
  iexact H

variable (𝒱 : Variants) (bd : Option 𝒱.V)

/-- A trip, from whatever words the invariant holds of. -/
theorem at_trip (t : Fin k1_t1_loop.trips) (acc) (v8 v90 v92 : BitVec 32) :
    Between EC d L qp qt xa xb f₀ O W t acc
      ⊢ wp frame (wpE defs₀ 𝒱 (thr d L) bd) Set.univ
        (k1_t1_body (F := F) L aM (Memref.isWhole_whole _) bM (Memref.isWhole_whole _) oM (Memref.isWhole_whole _) pB (Memref.isWhole_whole _) cc1_scoped1 tB (Memref.isWhole_whole _) cc1_scoped3 oB (Memref.isWhole_whole _) cc1_scoped5 (tileW L) v8 v90 8#32 v92 0#32
          t acc) (Between EC d L qp qt xa xb f₀ O W (t.val + 1)) := by
  by_cases hacc : acc = words t
  · subst hacc
    exact trip EC d L qp qt xa xb f₀ O W 𝒱 bd t v8 v90 v92
  · unfold Between
    iintro ⟨%h, -⟩
    exact absurd h hacc

theorem tile_word (L : grid1.Coords) :
    Scalar.muli (Scalar.addi (Scalar.addi 0#32 (Scalar.muli (BitVec.ofNat 32 (L 1)) 1#32)) (Scalar.muli (BitVec.ofNat 32 (L 0)) 16#32)) 1#32
      = tileW L := by
  revert L
  refine forall_tile ?_
  decide +kernel

set_option maxHeartbeats 4000000

include EC in
/-- The tile's program, from its two operands and its share of the result's blocks. -/
theorem wp_body :
    (idle d L qp qt xa xb O W (todo d L f₀ 0) : sProp 𝕄)
      ⊢ wp frame (wpE defs₀ 𝒱 (thr d L) bd) Set.univ
        (cc1__sc_body (F := F) L aM (Memref.isWhole_whole _) bM (Memref.isWhole_whole _) oM (Memref.isWhole_whole _) pB (Memref.isWhole_whole _) cc1_scoped1 tB (Memref.isWhole_whole _) cc1_scoped3 oB (Memref.isWhole_whole _) cc1_scoped5)
        fun _ => idle d L qp qt xa xb O W iprop(emp ∗ done d L xa xb 36) := by
  simp -zeta only [cc1__sc_body_eq_skeleton]
  unfold cc1__sc_body_skel
  simp -zeta only [wp_bind]
  refine at_pure 𝒱 bd rfl fun r16 h16 => ?_
  obtain ⟨v4, v8, v23, v26, v27, c1⟩ := r16
  have hv4 : v4 = tileW L := (congrArg (fun r => r.1) h16).trans (tile_word L)
  clear h16
  subst hv4
  refine at_pure 𝒱 bd rfl fun v59 h17 => ?_
  clear h17
  -- the first block of patches
  simp -zeta only [k1_part18_eq_skeleton]
  unfold k1_part18_skel
  refine at_cut 𝒱 bd fun Q18 hQ18 => ?_
  dsimp only
  refine (slots_swap d L qp qt xa xb O W (todo d L f₀ 0)).trans ?_
  apply place_p (X := pFly EC d L qp xa 0 0)
  case hs => exact at_fetchP EC d L qp xa 𝒱 bd (off2_eq L) off1_eq off3_eq
  refine at_pure 𝒱 bd rfl fun r18 h18 => ?_
  subst h18
  subst hQ18
  dsimp only
  -- the first block of the table
  simp -zeta only [k1_part19_eq_skeleton]
  unfold k1_part19_skel
  refine at_cut 𝒱 bd fun Q19 hQ19 => ?_
  dsimp only
  apply place_t (X := tFly EC d L qt xb 0 0)
  case hs => exact at_fetchT EC d L qt xb 𝒱 bd (off5_eq L) off4_eq off3_eq
  -- the trips
  change _ ⊢ wp _ _ _ (Scf.Loop.for k1_t1_loop k1_t1_ok (words 0) _ >>= _) _
  rw [wp_bind]
  refine BI.Entails.trans ((first_trip EC d L qp qt xa xb f₀ O W).trans ?_) (Scf.wp_for _ _ _ k1_t1_loop.lb k1_t1_loop.ub k1_t1_loop.st k1_t1_ok _ _
    (Between EC d L qp qt xa xb f₀ O W) (fun t acc => at_trip EC d L qp qt xa xb f₀ O W 𝒱 bd t acc _ _ _))
  refine at_loop (fun acc => ?_)
  refine at_last EC d L qp qt xa xb f₀ O W acc fun hacc => ?_
  subst hacc
  dsimp only [words]
  rw [wp_bind]
  refine at_check 𝒱 bd (chk6_holds L) ?_
  rw [wp_bind]
  refine at_check 𝒱 bd chk5_holds ?_
  refine at_pure 𝒱 bd rfl fun r19 h19 => ?_
  subst h19
  subst hQ19
  dsimp only
  refine at_pure 𝒱 bd rfl fun r20 h20 => ?_
  clear h20
  obtain ⟨v130, v135, v136, v137, v153⟩ := r20
  refine at_pure 𝒱 bd rfl fun r21 h21 => ?_
  clear h21
  obtain ⟨v182, v183⟩ := r21
  refine at_pure 𝒱 bd rfl fun r22 h22 => ?_
  clear h22
  -- the last write
  refine at_cut 𝒱 bd fun Q23 hQ23 => ?_
  dsimp only
  apply place_ow (X := oFree d L 1) (Y := iprop(emp ∗ done d L xa xb 36)) (Z := owing d L O W)
  case hs => exact at_flushed_last EC d L xa xb O W 𝒱 bd (off32_eq)
  refine at_pure 𝒱 bd rfl fun r h => ?_
  subst hQ23
  exact slots_back d L qp qt xa xb O W _

end Cert.Proof.Tile
-- ==== Proof.Setup.lean ====
/-
  What the launch of the whole program is stated over: the program as the SparseCore launch sees it, and the resources the proof uses
  beside the machine's own.
-/
module

public import proofs.«01_k».proof.Proof.Body
public import proofs.«01_k».proof.Proof.Gen.KernelIdeal.Launch
public import Idealize.ShloMosaic.Lib.SparseCore.Quiescent
public import Idealize.ShloMosaic.Lib.Pipeline.Kit

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none
/-- The TensorCore's pipeline takes no table. -/
abbrev adm : (p : Fin 1) → (pcfgs (F := F) p).Adm := fun p => (cfgs p).toPCfg_adm

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resources: the handshakes' rounds, the pipeline's, the tiles' transfer counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
/-- The pipeline's part. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance
/-- The counters' part. -/
abbrev EC : UEmb Counters (MT nD τ sig (HIx 1) (Elt F) ℕ UU ℕ) := countersEmb
instance EC_landsIn : (EC : UEmb Counters 𝕄).LandsIn (upEmb : UEmb _ 𝕄) := by unfold EC; infer_instance

theorem cellOf_pin : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) cellOf_pin) (Pipeline.launchToks (Pipeline.pin (pcfgs (F := F)) adm) cellOf_pin), 1))

theorem own_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- The pipeline's ghost state on one device: its staging cells', and the tokens of their rounds. -/
def ghost (d : Dev nD) : sProp 𝕄 :=
  iprop(Pipeline.cellsGhost (Pipeline.pin (pcfgs (F := F)) adm) EP 0 d ∗ Pipeline.toksInit (Pipeline.pin (pcfgs (F := F)) adm) EP 0 d)

/-- The initial ghost state gives the handshakes' and every device's pipeline's. -/
theorem ghosts : (ownU (u₀ (F := F)) : sProp 𝕄)
    ⊢ |={Set.univ}=> iprop(BI.own (EH (initOf (K (F := F)).hsCells (K (F := F)).hsToks)) ∗ bigSep Finset.univ fun d : Dev nD => ghost d) := by
  unfold u₀
  refine (own_split _ _).trans ?_
  iintro ⟨Hh, Hp⟩
  imod (Pipeline.fund_ghost (Pipeline.pin (pcfgs (F := F)) adm) EP cellOf_pin) $$ Hp with ⟨Hc, Ht⟩
  imodintro
  isplitl [Hh]; · iexact Hh
  unfold ghost
  simp only [bigSep_sep', Finset.univ_unique, Fin.default_eq_zero, bigSep_singleton]
  isplitl [Hc] <;> iassumption

end Cert.Proof.Run

end
-- ==== Proof.Head.lean ====
/-
  The TensorCore's part: a pipeline of 12 points, each of which adds the table to 8 of the first 96 batches.
-/
module

public import proofs.«01_k».proof.Proof.Setup
public import proofs.«01_k».proof.Proof.Gen.KernelIdeal.Points
public import proofs.«01_k».proof.Proof.Gen.KernelIdeal.Skeleton
public import Idealize.ShloMosaic.Lib.Pipeline.Value
public import Idealize.ShloMosaic.Lib.Tactic

@[expose] public section

noncomputable section

namespace Cert.Proof.Run

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ)

/-! ## One point's body -/

theorem zero3 : (![0, 0, 0] : Fin 3 → Nat) = fun _ => 0 := funext fun a => by fin_cases a <;> rfl
theorem zero2 : (![0, 0] : Fin 2 → Nat) = fun _ => 0 := funext fun a => by fin_cases a <;> rfl

/-- From its two blocks the body leaves their sum in the third buffer. -/
theorem add_block (d : Dev nD) (i : grid0.Coords)
    (P : Memref sig .tc .vmem S8x576x768 .f32) (hP : P.IsWhole) (E : Memref sig .tc .vmem S576x768 .f32) (hE : E.IsWhole)
    (R : Memref sig .tc .vmem S8x576x768 .f32) (hR : R.IsWhole)
    (p : Vec F S8x576x768 .f32) (e : Vec F S576x768 .f32) (Q : PUnit → sProp 𝕄) :
    iprop(owns (d : Thread nD τ) P fullShare p ∗ owns (d : Thread nD τ) E fullShare e ∗ (∃ r, owns (d : Thread nD τ) R fullShare r)
        ∗ (iprop(owns (d : Thread nD τ) P fullShare p ∗ owns (d : Thread nD τ) E fullShare e
            ∗ owns (d : Thread nD τ) R fullShare (k0_pay1 p e)) -∗ Q ⟨⟩))
      ⊢ wp frame (wpE (defs₀ (F := F)) 𝒱₀ d none) Set.univ (cc0__tc_add i P hP E hE R hR) Q := by
  rw [cc0__tc_add_eq_skeleton]; unfold cc0__tc_add_skel owns
  iintro ⟨⟨%fp, %hp, Hp⟩, ⟨%fe, %he, He⟩, ⟨%r, %fr, -, Hr⟩, Hk⟩
  subst hp he
  sl_exec
  sl_step
  iapply Hk
  isplitl [Hp]
  · iexists fp; isplitr; · ipureintro; rfl
    iexact Hp
  isplitl [He]
  · iexists fe; isplitr; · ipureintro; rfl
    iexact He
  iexists _; isplitr
  swap; · iexact Hr
  ipureintro
  refine (View.read_writes_eq_canon _ _ _ fun y => ⟨_, List.mem_singleton_self _, View.mem_set_unit_zero zero3 inb_S8x576x768_S8x576x768_0_0_0 y⟩).trans ?_
  rw [View.canon_unit_zero zero3]
  exact congrArg₂ k0_pay1 (View.ld_unit_zero zero3 inb_S8x576x768_S8x576x768_0_0_0 _) (View.ld_unit_zero zero2 inb_S576x768_S576x768_0_0 _)

/-! ## What the pipeline holds -/

/-- Window `w`'s block at point `t`, as the launch's memory has it. -/
abbrev blockAt (d : Dev nD) (w : Fin cfg0.W) (t : Fin cfg0.N) : ((cfg0.win w).xblock (cfg0.grid.coords t)).Idx → Elt F (cfg0.win w).elt :=
  ((cfg0.win w).blk t).view.read (Elt F) (m ((d : Thread nD τ).loc (Pipeline.arrRef spec0 w)))

/-- The pairs of level 0: what waits outside the handshakes record. -/
abbrev quiet (d : Dev nD) : Set (SemLoc sig × HIx 1) := {p | (K (F := F)).lev ((d : Thread nD τ), p.1) p.2 ≤ 0}

def dat (d : Dev nD) : Dat τ (Elt F) (HIx 1) ℕ UU ℕ cfg0 d where
  A w := m ((d : Thread nD τ).loc (Pipeline.arrRef spec0 w))
  after w t := match w with
    | ⟨0, _⟩ => blockAt m d 0 t
    | ⟨1, _⟩ => blockAt m d 1 t
    | ⟨2, _⟩ => k0_pay1 (blockAt m d 0 t) (blockAt m d 1 t)
  Φ _ := iprop(emp)
  q _ := fullShare
  owed _ := (K (F := F)).Otc d 0
  recorded _ := quiet (F := F) d

def dats : (p : Fin 1) → (d : Dev nD) → Dat τ (Elt F) (HIx 1) ℕ UU ℕ (Pipeline.pin (pcfgs (F := F)) adm p) d := fun _ d => dat m d

theorem after_0 (d : Dev nD) (t : Fin cfg0.N) : (dat m d).after 0 t = blockAt m d 0 t := by dsimp only [dat]
theorem after_1 (d : Dev nD) (t : Fin cfg0.N) : (dat m d).after 1 t = blockAt m d 1 t := by dsimp only [dat]
theorem after_2 (d : Dev nD) (t : Fin cfg0.N) : (dat m d).after 2 t = k0_pay1 (blockAt m d 0 t) (blockAt m d 1 t) := by dsimp only [dat]

theorem before_0 (d : Dev nD) (t : Fin cfg0.N) (x) : (dat m d).before 0 t x = blockAt m d 0 t :=
  (dat m d).before_in_eq_fetched 0 rfl (fun _ => rfl) (fun _ _ _ => rfl) (fun _ => by rw [after_0]; rfl) t x
theorem before_1 (d : Dev nD) (t : Fin cfg0.N) (x) : (dat m d).before 1 t x = blockAt m d 1 t :=
  (dat m d).before_in_eq_fetched 1 rfl (fun _ => rfl) (fun _ _ _ => rfl) (fun _ => by rw [after_1]; rfl) t x

theorem defs₀_tc (t : Fin cfg0.N) : defs₀ (F := F) .tc cfg0.body (cfg0.bodyArgs t (cfg0.slots t)) = bodyAt0 t := rfl

/-- The body at a point. -/
theorem body_at (d : Dev nD) (t : Fin cfg0.N) :
    iprop((∃ x, owns (d : Thread nD τ) (st0_0 t) fullShare ((dat m d).before 0 t x))
        ∗ (∃ x, owns (d : Thread nD τ) (st0_1 t) fullShare ((dat m d).before 1 t x))
        ∗ (∃ x, owns (d : Thread nD τ) (st0_2 t) fullShare ((dat m d).before 2 t x)))
      ⊢ wp frame (wpE (defs₀ (F := F)) 𝒱₀ d none) Set.univ (bodyAt0 t) fun _ =>
        (iprop(owns (d : Thread nD τ) (st0_0 t) fullShare ((dat m d).after 0 t)
          ∗ owns (d : Thread nD τ) (st0_1 t) fullShare ((dat m d).after 1 t)
          ∗ owns (d : Thread nD τ) (st0_2 t) fullShare ((dat m d).after 2 t)) : sProp 𝕄) := by
  simp only [before_0, before_1]
  rw [after_0, after_1, after_2]
  iintro ⟨⟨%x0, H0⟩, ⟨%x1, H1⟩, ⟨%x2, H2⟩⟩
  iapply (add_block d _ _ _ _ _ _ _ (blockAt m d 0 t) (blockAt m d 1 t) _)
  isplitl [H0]; · iexact H0
  isplitl [H1]; · iexact H1
  isplitl [H2]; · iexists _; iexact H2
  iintro H; iexact H

theorem body_obligation (d : Dev nD) : BodyObligation (dat m d) (defs₀ (F := F)) 𝒱₀ (none : HIx 1) Set.univ := fun t => by
  rw [bigSep_W0, bigSep_W0, defs₀_tc]
  simp only
  rw [show (dat m d).Φ t.succ = (dat m d).Φ t.castSucc from rfl,
    show (dat m d).owesAt none t.succ = (dat m d).owesAt none t.castSucc from rfl]
  iintro ⟨HΦ, Ho, H⟩
  iapply (wp_wand _ _ _) $$ [H]
  · iapply (body_at m d t); iexact H
  iintro %_ H
  isplitl [HΦ]; · iexact HΦ
  isplitl [Ho]; · iexact Ho
  iexact H

end Cert.Proof.Run

end
-- ==== Proof.Region.lean ====
/-
  The TensorCore's pipeline as one step of the program: what it starts from, what it leaves, and the sum in the first 96 batches.
-/
module

public import proofs.«01_k».proof.Proof.Head
public import Idealize.ShloMosaic.Lib.Pipeline.Regions

@[expose] public section

noncomputable section

namespace Cert.Proof.Run

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ)

/-- Before the first handshake, nothing is owed at level 0. -/
theorem otc_none (d : Dev nD) (g : GSem nD τ sig) : (K (F := F)).Otc d 0 g none = 0 := by
  by_contra h
  exact absurd (SparseCore.Cfg.lev_of_Otc_pos (Nat.pos_of_ne_zero h)) (by show ¬ (_ + 1 ≤ 0); omega)

/-- The TensorCore's debts before the SparseCore call, every wait it has recorded being of level 0. -/
def debts (d : Dev nD) : sProp 𝕄 := Pipeline.owesWithin d ((K (F := F)).Otc d 0) (quiet (F := F) d)

/-- A device's arrays that the pipeline does not touch. -/
abbrev others (d : Dev nD) : sProp 𝕄 :=
  Pipeline.unscopedRest (Ix := HIx 1) (Name := ℕ) (U := UU) (Lvl := ℕ) spec0 d fun b => m ((d : Thread nD τ).loc b)

set_option backward.isDefEq.respectTransparency.types false in
def region : Pipeline.RegionSeg (pcfgs (F := F)) adm (dats m) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody d := (body_obligation m d).loose
  hwaits d := Pipeline.cellsWaits_intro _ _ _ _ d fun w s t => (K (F := F)).mayWait_none _ fun g => otc_none d g
  pre d := iprop(unscopedBufs d (fun b => m ((d : Thread nD τ).loc b)) ∗ debts d)
  post d := iprop((dat m d).arrays ((dat m d).arrAt · cfg0.N) ∗ others m d ∗ debts d)
  X _ := iprop(emp)
  Y _ := iprop(emp)
  Z d := others m d
  hentry d := by
    rw [Pipeline.ownSems0_none]
    have hsplit := Pipeline.arrays_of_unscopedBufs (p := 0) (pcfgs (F := F)) adm (dats m) launch0.win launch0.arr_whole d
      ((dats m 0 d).share_full fun _ => rfl) (fun b => m ((d : Thread nD τ).loc b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold debts Pipeline.Dat.owesAt Pipeline.owesWithin
      icases HO with ⟨%W, %hW, HO⟩; iexists W; isplitr; · ipureintro; exact fun p hp => Or.inl (hW hp)
      iexact HO
    isplitr; · iempintro
    iexact Hrest
  hin d := by
    rw [show (dats m 0 d).Φ 0 = iprop(emp) from rfl]
    iintro -; iempintro
  hout d := by
    rw [Pipeline.ownSems0_none, show Pipeline.scopedRest (Ix := HIx 1) (Name := ℕ) (U := UU) (Lvl := ℕ) (Val := Elt F) (pcfgs (F := F) 0).spec d = BI.emp from scopedRest0_eq d]
    iintro -
    isplitr; · iempintro
    isplitr <;> iempintro
  hexit d := by
    iintro ⟨Ha, HO, -, Hrest⟩
    imodintro
    isplitl [Ha]; · iexact Ha
    isplitl [Hrest]; · iexact Hrest
    unfold debts Pipeline.Dat.owesAt Pipeline.owesWithin
    icases HO with ⟨%W, %hW, HO⟩; iexists W; isplitr
    · ipureintro
      intro p hp
      rcases hW hp with h | ⟨w, s, rfl⟩
      · exact h
      · exact Nat.le_refl 0
    iexact HO

end Cert.Proof.Run

end
-- ==== Proof.HeadValue.lean ====
/-
  What the TensorCore's pipeline leaves: the sum, in the first 96 batches of its result.
-/
module

public import proofs.«01_k».proof.Proof.Head
public import Idealize.ShloMosaic.Lib.ValueLayout

@[expose] public section

noncomputable section

namespace Cert.Proof.Run

open Cert.KernelIdeal Cert.KernelIdeal.Gen

open Idealize.ShloMosaic Idealize.ShloMosaic.TcCoe
open Idealize.ShloMosaic.SparseCore.Cfg (HIx)
open Idealize.SL.Sem
open Idealize.ShloMosaic.Pipeline (Dat)

variable {F : FTy → Type} [FloatOps F]

/-- The sum of the patches and the table. -/
def sumVal (xa : S128x576x768.Idx → Elt F .f32) (xb : S576x768.Idx → Elt F .f32) : S128x576x768.Idx → Elt F .f32 :=
  fun i => FloatOps.addf (φ := .f32) (xa i) (xb (ValueIdx.ix2 (i 1) (i 2)))

/-- One element of a block's sum. -/
theorem pay_apply (p : Vec F S8x576x768 .f32) (e : Vec F S576x768 .f32) (x : S8x576x768.Idx) :
    k0_pay1 p e x = FloatOps.addf (φ := .f32) (p x) (e (ValueIdx.ix2 (x 1) (x 2))) := by
  show FloatOps.addf (φ := .f32) (p x) (broadcastTo S8x576x768 (shapeCast S1x576x768 e shapeCasts_S576x768_S1x576x768) broadcasts_S1x576x768_S8x576x768 x) = _
  refine congrArg (FloatOps.addf (φ := .f32) (p x)) ((broadcastTo_apply _ _ x (ValueIdx.ix3 (0 : Fin 1) (x 1) (x 2)) fun a => ?_).trans (ValueIdx.shapeCast_ab_1ab_apply _ _ _ _ _))
  match a with
  | ⟨0, _⟩ => rfl
  | ⟨1, _⟩ => rfl
  | ⟨2, _⟩ => rfl

variable (m : (ℓ : Loc nD τ sig) → Buf (Elt F) ℓ)

/-- The windows' block indices. -/
theorem blocks_at : ∀ t : Fin grid0.N,
    (win0_0.index t 0 = t.val ∧ win0_0.index t 1 = 0 ∧ win0_0.index t 2 = 0) ∧ (win0_1.index t 0 = 0 ∧ win0_1.index t 1 = 0)
      ∧ (win0_2.index t 0 = t.val ∧ win0_2.index t 1 = 0 ∧ win0_2.index t 2 = 0) := by
  decide +kernel

/-- What a point writes back is its block of the sum. -/
theorem flushed_eq (d : Dev nD) (t : Fin cfg0.N) :
    (dat m d).flushed 2 t = ((cfg0.win 2).blk t).view.read (Elt F) (sumVal (m ((d : Thread nD τ).loc main_arg0)) (m ((d : Thread nD τ).loc main_arg1))) := by
  show (cfg0.win 2).cut (grid0.coords t) ((dat m d).after 2 t) = _
  rw [after_2]
  funext x
  refine (pay_apply _ _ x).trans ?_
  obtain ⟨-, ⟨h10, h11⟩, -, h21, h22⟩ := blocks_at t
  refine congrArg₂ (FloatOps.addf (φ := .f32)) rfl (congrArg (m ((d : Thread nD τ).loc main_arg1)) (funext fun a => ?_))
  match a with
  | ⟨0, _⟩ => exact Fin.ext ((win0_1.rect_emb_val_of_index_zero t 0 h10 _).trans (win0_2.rect_emb_val_of_index_zero t 1 h21 x).symm)
  | ⟨1, _⟩ => exact Fin.ext ((win0_1.rect_emb_val_of_index_zero t 1 h11 _).trans (win0_2.rect_emb_val_of_index_zero t 2 h22 x).symm)

/-- The elements of a point's block. -/
theorem mem_block (t : Fin cfg0.N) (i : S128x576x768.Idx) (h : t.val * 8 ≤ (i 0).val ∧ (i 0).val < t.val * 8 + 8) :
    i ∈ ((cfg0.win 2).blk t).view.set := by
  show i ∈ ((View.whole main_v0).slice (win0_2.rect t)).set
  rw [View.set_slice_whole, Rect.mem_set_unit]
  obtain ⟨-, -, h0, h1, h2⟩ := blocks_at t
  have l1 : (i 1).val < 576 := (i 1).isLt
  have l2 : (i 2).val < 768 := (i 2).isLt
  intro a
  match a with
  | ⟨0, _⟩ => show win0_2.index t 0 * 8 ≤ (i 0).val ∧ (i 0).val < win0_2.index t 0 * 8 + 8; rw [h0]; exact h
  | ⟨1, _⟩ => show win0_2.index t 1 * 576 ≤ (i 1).val ∧ (i 1).val < win0_2.index t 1 * 576 + 576; rw [h1]; omega
  | ⟨2, _⟩ => show win0_2.index t 2 * 768 ≤ (i 2).val ∧ (i 2).val < win0_2.index t 2 * 768 + 768; rw [h2]; omega

/-- Every element of the first 96 batches is in some point's block. -/
theorem head_cover (i : S128x576x768.Idx) (hi : (i 0).val < 96) :
    ∃ t : Fin cfg0.N, (cfg0.win 2).flush t = true ∧ i ∈ ((cfg0.win 2).blk t).view.set := by
  have hN : grid0.N = 12 := N_0
  exact ⟨⟨(i 0).val / 8, by show _ < grid0.N; omega⟩, flush0_2 _, mem_block _ i (by dsimp only; omega)⟩

/-- The first 96 batches of the pipeline's result. -/
theorem head_apply (d : Dev nD) (i : S128x576x768.Idx) (hi : (i 0).val < 96) :
    (dat m d).arrAt 2 cfg0.N i = sumVal (m ((d : Thread nD τ).loc main_arg0)) (m ((d : Thread nD τ).loc main_arg1)) i :=
  ((dat m d).arrAt_eq_piecewise 2 _ (fun t _ => flushed_eq m d t) i).trans (if_pos (head_cover i hi))

end Cert.Proof.Run

end
-- ==== Proof.Blocks.lean ====
/-
  How the arrays go to the 32 tiles: the result's blocks part the result, thirty-six blocks to a tile, and the patches and the table
  go whole to every tile at a read share of its own.
-/
module

public import proofs.«01_k».proof.Proof.Setup

@[expose] public section

noncomputable section

namespace Cert.Proof.Run

open Cert.KernelIdeal Cert.KernelIdeal.Gen
open Cert.Proof.Tile

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The result's blocks -/

/-- The elements of the result in the block of tile `L` at trip `t`. -/
abbrev blkSet (L : grid1.Coords) (t : ℕ) : Finset S32x576x768.Idx := (oBlk L t).view.set

theorem mem_blkSet (L : grid1.Coords) (t : ℕ) (i : S32x576x768.Idx) :
    i ∈ blkSet L t ↔ (i 0).val = batchAt L t ∧ rowAt L t ≤ (i 1).val ∧ (i 1).val < rowAt L t + 16 := by
  show i ∈ ((View.whole main_v1_scv).slice (Rect.unit (s := S32x576x768) ![batchAt L t, rowAt L t, 0] S1x16x768.size (oBlk_inb L t))).set ↔ _
  rw [View.set_slice_whole, Rect.mem_set_unit]
  have l2 : (i 2).val < 768 := (i 2).isLt
  constructor
  · intro h
    have h0 : batchAt L t ≤ (i 0).val ∧ (i 0).val < batchAt L t + 1 := h 0
    have h1 : rowAt L t ≤ (i 1).val ∧ (i 1).val < rowAt L t + 16 := h 1
    omega
  · rintro ⟨h0, h1, h2⟩ a
    match a with
    | ⟨0, _⟩ => show batchAt L t ≤ (i 0).val ∧ (i 0).val < batchAt L t + 1; omega
    | ⟨1, _⟩ => exact ⟨h1, h2⟩
    | ⟨2, _⟩ => exact ⟨Nat.zero_le _, by show (i 2).val < 0 + 768; omega⟩

/-- A block's place gives its tile's number and its trip. -/
theorem place_inj (L L' : grid1.Coords) (t t' : ℕ) (ht : t < 36) (ht' : t' < 36) (i : S32x576x768.Idx) (h : i ∈ blkSet L t) (h' : i ∈ blkSet L' t') :
    tileNo L = tileNo L' ∧ t = t' := by
  rw [mem_blkSet] at h h'
  unfold batchAt rowAt at h h'
  omega

/-- The tile of core `c`, number `s`. -/
abbrev tileOf (c : Fin 2) (s : Fin 16) : grid1.Coords := tileAt c s

theorem tileNo_of (c : Fin 2) (s : Fin 16) : tileNo (tileOf c s) = s.val + 16 * c.val := rfl

/-- All blocks of a tile, and of a core. -/
def tileSet (c : Fin 2) (s : Fin 16) : Finset S32x576x768.Idx := (Finset.range 36).biUnion (blkSet (tileOf c s))
def coreSet (c : Fin 2) : Finset S32x576x768.Idx := Finset.univ.biUnion (tileSet c)

theorem mem_tileSet (c : Fin 2) (s : Fin 16) (i : S32x576x768.Idx) : i ∈ tileSet c s ↔ ∃ t < 36, i ∈ blkSet (tileOf c s) t := by
  simp only [tileSet, Finset.mem_biUnion, Finset.mem_range]
theorem mem_coreSet (c : Fin 2) (i : S32x576x768.Idx) : i ∈ coreSet c ↔ ∃ s, i ∈ tileSet c s := by
  simp only [coreSet, Finset.mem_biUnion, Finset.mem_univ, true_and]

theorem blks_disjoint (L : grid1.Coords) : ∀ t ∈ Finset.range 36, ∀ t' ∈ Finset.range 36, t ≠ t' → Disjoint (blkSet L t) (blkSet L t') := by
  intro t ht t' ht' hne
  rw [Finset.disjoint_left]
  intro i h h'
  exact hne (place_inj L L t t' (Finset.mem_range.mp ht) (Finset.mem_range.mp ht') i h h').2

theorem tiles_disjoint (c : Fin 2) : ∀ s ∈ (Finset.univ : Finset (Fin 16)), ∀ s' ∈ (Finset.univ : Finset (Fin 16)), s ≠ s' → Disjoint (tileSet c s) (tileSet c s') := by
  intro s _ s' _ hne
  rw [Finset.disjoint_left]
  intro i h h'
  obtain ⟨t, ht, h⟩ := (mem_tileSet c s i).mp h
  obtain ⟨t', ht', h'⟩ := (mem_tileSet c s' i).mp h'
  have e := (place_inj _ _ t t' ht ht' i h h').1
  rw [tileNo_of, tileNo_of] at e
  exact hne (Fin.ext (by omega))

theorem cores_disjoint : ∀ c ∈ (Finset.univ : Finset (Fin 2)), ∀ c' ∈ (Finset.univ : Finset (Fin 2)), c ≠ c' → Disjoint (coreSet c) (coreSet c') := by
  intro c _ c' _ hne
  rw [Finset.disjoint_left]
  intro i h h'
  obtain ⟨s, h⟩ := (mem_coreSet c i).mp h
  obtain ⟨s', h'⟩ := (mem_coreSet c' i).mp h'
  obtain ⟨t, ht, h⟩ := (mem_tileSet c s i).mp h
  obtain ⟨t', ht', h'⟩ := (mem_tileSet c' s' i).mp h'
  have e := (place_inj _ _ t t' ht ht' i h h').1
  rw [tileNo_of, tileNo_of] at e
  exact hne (Fin.ext (by omega))

theorem cores_cover : (Finset.univ : Finset (Fin 2)).biUnion coreSet = Finset.univ := by
  ext i
  simp only [Finset.mem_biUnion, Finset.mem_univ, true_and, iff_true]
  have l0 : (i 0).val < 32 := (i 0).isLt
  have l1 : (i 1).val < 576 := (i 1).isLt
  -- the tile of rows `144 * g + …` and batches `4 * b + …`, and its trip
  let n : ℕ := (i 1).val / 16 / 9 * 8 + (i 0).val / 4
  let t : ℕ := (i 1).val / 16 % 9 * 4 + (i 0).val % 4
  have hn : n < 32 := by dsimp only [n]; omega
  have ht : t < 36 := by dsimp only [t]; omega
  refine ⟨⟨n / 16, by omega⟩, (mem_coreSet _ i).mpr ⟨⟨n % 16, by omega⟩, (mem_tileSet _ _ i).mpr ⟨t, ht, (mem_blkSet _ t i).mpr ?_⟩⟩⟩
  unfold batchAt rowAt
  rw [tileNo_of]
  dsimp only [n, t] at hn ht ⊢
  omega

/-! ## The arrays, parted -/

abbrev aLoc (d : Dev nD) : Loc nD τ sig := (d : Thread nD τ).loc main_arg0
abbrev bLoc (d : Dev nD) : Loc nD τ sig := (d : Thread nD τ).loc main_arg1
abbrev headLoc (d : Dev nD) : Loc nD τ sig := (d : Thread nD τ).loc main_v0
abbrev tailLoc (d : Dev nD) : Loc nD τ sig := (d : Thread nD τ).loc main_v1

/-- The result's elements as the blocks of the tiles. -/
theorem tail_parts (d : Dev nD) (G : Buf (Elt F) (tailLoc d)) : (tailLoc d ↦{fullShare} G : sProp 𝕄)
    = bigSep Finset.univ fun c : Fin 2 => bigSep Finset.univ fun s : Fin 16 => bigSep (Finset.range 36) (oPart d (tileOf c s) G) := by
  have h1 : (tailLoc d ↦{fullShare} G : sProp 𝕄) = bigSep Finset.univ fun c : Fin 2 => tailLoc d ↦[coreSet c]{fullShare} G := by
    rw [← pointsTo_biUnion Finset.univ (ℓ := tailLoc d) coreSet cores_disjoint, cores_cover]
  rw [h1]
  refine bigSep_congr fun c _ => ?_
  unfold coreSet
  rw [pointsTo_biUnion Finset.univ (ℓ := tailLoc d) (tileSet c) (tiles_disjoint c)]
  refine bigSep_congr fun s _ => ?_
  unfold tileSet
  rw [pointsTo_biUnion (Finset.range 36) (ℓ := tailLoc d) (blkSet (tileOf c s)) (blks_disjoint _)]
  rfl

/-- The read share of a tile. -/
abbrev qAt (c : Fin 2) (s : Fin 16) : PosShare TreeShare :=
  Transfers.dealOf (Transfers.dealOf fullShare Finset.univ c) Finset.univ s

/-- An array as the tiles' shares of it. -/
theorem read_parts (ℓ : Loc nD τ sig) (f : Buf (Elt F) ℓ) : (ℓ ↦{fullShare} f : sProp 𝕄)
    = bigSep Finset.univ fun c : Fin 2 => bigSep Finset.univ fun s : Fin 16 => ℓ ↦{qAt c s} f := by
  rw [Transfers.pointsTo_deal (Finset.univ : Finset (Fin 2)) ⟨0, Finset.mem_univ _⟩ fullShare]
  exact bigSep_congr fun c _ => Transfers.pointsTo_deal (Finset.univ : Finset (Fin 16)) ⟨0, Finset.mem_univ _⟩ _

/-- What a tile is given of the arrays: the patches and the table to read, and its blocks of the result, which hold `G`. -/
def given (d : Dev nD) (c : Fin 2) (s : Fin 16) (xa : Buf (Elt F) (aLoc d)) (xb : Buf (Elt F) (bLoc d)) (G : Buf (Elt F) (tailLoc d)) : sProp 𝕄 :=
  iprop((aLoc d ↦{qAt c s} xa) ∗ (bLoc d ↦{qAt c s} xb) ∗ bigSep (Finset.range 36) (oPart d (tileOf c s) G))

/-- The three arrays whole are what the tiles are given. -/
theorem given_all (d : Dev nD) (xa : Buf (Elt F) (aLoc d)) (xb : Buf (Elt F) (bLoc d)) (G : Buf (Elt F) (tailLoc d)) :
    (iprop((aLoc d ↦{fullShare} xa) ∗ (bLoc d ↦{fullShare} xb) ∗ (tailLoc d ↦{fullShare} G)) : sProp 𝕄)
      = bigSep Finset.univ fun c : Fin 2 => bigSep Finset.univ fun s : Fin 16 => given d c s xa xb G := by
  rw [read_parts (aLoc d), read_parts (bLoc d), tail_parts]
  unfold given
  simp only [bigSep_sep']

end Cert.Proof.Run

end
-- ==== Proof.Tile.lean ====
/-
  A tile's task as the launch sees it: out of the buffers and semaphores that are the tile's own come the pipeline's slots, and
  its share of the arrays is split between the two slots of each operand.
-/
module

public import proofs.«01_k».proof.Proof.Blocks

@[expose] public section

noncomputable section

namespace Cert.Proof.Run

open Cert.KernelIdeal Cert.KernelIdeal.Gen
open Cert.Proof.Tile

open Idealize.ShloMosaic
open Idealize.ShloMosaic.SparseCore (S V T)
open Idealize.ShloMosaic.SparseCore.Cfg (HIx ownSems0 ownCells ownBufs ownRefs mem_ownCells)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## A buffer is its two slots -/

abbrev half4 (n : Fin 2) : Rect S2x1x16x768 := Rect.unit (s := S2x1x16x768) ![n.val, 0, 0, 0] S1x1x16x768.size (slot4_inb n)
abbrev half3 (n : Fin 2) : Rect S2x16x768 := Rect.unit (s := S2x16x768) ![n.val, 0, 0] S1x16x768.size (slot3_inb n)

theorem mem_half4 (n : Fin 2) (i : S2x1x16x768.Idx) : i ∈ (half4 n).set ↔ (i 0).val = n.val := by
  rw [Rect.mem_set_unit]
  have l1 : (i 1).val < 1 := (i 1).isLt
  have l2 : (i 2).val < 16 := (i 2).isLt
  have l3 : (i 3).val < 768 := (i 3).isLt
  constructor
  · intro h
    have h0 : n.val ≤ (i 0).val ∧ (i 0).val < n.val + 1 := h 0
    omega
  · intro h0 a
    match a with
    | ⟨0, _⟩ => show n.val ≤ (i 0).val ∧ (i 0).val < n.val + 1; omega
    | ⟨1, _⟩ => show 0 ≤ (i 1).val ∧ (i 1).val < 0 + 1; omega
    | ⟨2, _⟩ => show 0 ≤ (i 2).val ∧ (i 2).val < 0 + 16; omega
    | ⟨3, _⟩ => show 0 ≤ (i 3).val ∧ (i 3).val < 0 + 768; omega
theorem mem_half3 (n : Fin 2) (i : S2x16x768.Idx) : i ∈ (half3 n).set ↔ (i 0).val = n.val := by
  rw [Rect.mem_set_unit]
  have l2 : (i 1).val < 16 := (i 1).isLt
  have l3 : (i 2).val < 768 := (i 2).isLt
  constructor
  · intro h
    have h0 : n.val ≤ (i 0).val ∧ (i 0).val < n.val + 1 := h 0
    omega
  · intro h0 a
    match a with
    | ⟨0, _⟩ => show n.val ≤ (i 0).val ∧ (i 0).val < n.val + 1; omega
    | ⟨1, _⟩ => show 0 ≤ (i 1).val ∧ (i 1).val < 0 + 16; omega
    | ⟨2, _⟩ => show 0 ≤ (i 2).val ∧ (i 2).val < 0 + 768; omega

theorem halves4 : Disjoint (half4 0).set (half4 1).set ∧ (half4 0).set ∪ (half4 1).set = Finset.univ := by
  refine ⟨Finset.disjoint_left.mpr fun i h h' => ?_, Finset.ext fun i => ?_⟩
  · rw [mem_half4] at h h'; exact absurd (h.symm.trans h') (by decide)
  · have l0 : (i 0).val < 2 := (i 0).isLt
    rw [Finset.mem_union, mem_half4, mem_half4]
    exact iff_of_true (show (i 0).val = 0 ∨ (i 0).val = 1 by omega) (Finset.mem_univ i)
theorem halves3 : Disjoint (half3 0).set (half3 1).set ∧ (half3 0).set ∪ (half3 1).set = Finset.univ := by
  refine ⟨Finset.disjoint_left.mpr fun i h h' => ?_, Finset.ext fun i => ?_⟩
  · rw [mem_half3] at h h'; exact absurd (h.symm.trans h') (by decide)
  · have l0 : (i 0).val < 2 := (i 0).isLt
    rw [Finset.mem_union, mem_half3, mem_half3]
    exact iff_of_true (show (i 0).val = 0 ∨ (i 0).val = 1 by omega) (Finset.mem_univ i)

theorem two_parts_split {ℓ : Loc nD τ sig} {I J : Finset (Idx ℓ)} (h : Disjoint I J ∧ I ∪ J = Finset.univ) :
    (iprop(∃ f, ℓ ↦{fullShare} f) : sProp 𝕄) ⊢ iprop((∃ f, ℓ ↦[I]{fullShare} f) ∗ ∃ f, ℓ ↦[J]{fullShare} f) := by
  iintro ⟨%f, H⟩
  ihave H' := ((Entails.of_eq (by rw [h.2])).trans (pointsTo_union (ℓ := ℓ) (q := fullShare) (f := f) h.1).1) $$ H
  icases H' with ⟨H1, H2⟩
  isplitl [H1]
  · iexists f; iexact H1
  · iexists f; iexact H2
theorem two_parts_join {ℓ : Loc nD τ sig} {I J : Finset (Idx ℓ)} (h : Disjoint I J ∧ I ∪ J = Finset.univ) :
    (iprop((∃ f, ℓ ↦[I]{fullShare} f) ∗ ∃ f, ℓ ↦[J]{fullShare} f) : sProp 𝕄) ⊢ iprop(∃ f, ℓ ↦{fullShare} f) := by
  iintro ⟨⟨%f, H1⟩, ⟨%g, H2⟩⟩
  iexists (J.piecewise g f)
  iapply ((pointsTo_join (ℓ := ℓ) (q := fullShare) (f := f) (g := g) h.1).trans (Entails.of_eq (by rw [h.2])))
  isplitl [H1] <;> iassumption
/-- Two disjoint parts of an array, each at some contents, are the array at some contents. -/
theorem two_parts {ℓ : Loc nD τ sig} {I J : Finset (Idx ℓ)} (h : Disjoint I J ∧ I ∪ J = Finset.univ) :
    (iprop(∃ f, ℓ ↦{fullShare} f) : sProp 𝕄) = iprop((∃ f, ℓ ↦[I]{fullShare} f) ∗ ∃ f, ℓ ↦[J]{fullShare} f) :=
  BI.Entails.antisymm (two_parts_split h) (two_parts_join h)

variable (d : Dev nD) (L : grid1.Coords)

theorem p_set (n : Fin 2) : (slot4 pB n).view.set = (half4 n).set := by
  show (((View.whole cc1_scoped0).slice (half4 n)).reshape S1x16x768 squeezes_S1x1x16x768_S1x16x768.numel_eq).set = _
  rw [View.set_reshape, View.set_slice_whole]
theorem t_set (n : Fin 2) : (slot3 tB n).view.set = (half3 n).set := by
  show (((View.whole cc1_scoped2).slice (half3 n)).reshape S16x768 squeezes_S1x16x768_S16x768.numel_eq).set = _
  rw [View.set_reshape, View.set_slice_whole]
theorem o_set (n : Fin 2) : (slot4 oB n).view.set = (half4 n).set := by
  show (((View.whole cc1_scoped4).slice (half4 n)).reshape S1x16x768 squeezes_S1x1x16x768_S1x16x768.numel_eq).set = _
  rw [View.set_reshape, View.set_slice_whole]

/-- Each staging buffer, whatever it holds, is its two slots, whatever they hold. -/
theorem p_slots : (iprop(∃ f, (thr d L).loc cc1_scoped0 ↦{fullShare} f) : sProp 𝕄)
    = iprop(loose (thr d L) (slot4 pB 0) ∗ loose (thr d L) (slot4 pB 1)) := by
  show _ = iprop((∃ f, (thr d L).loc cc1_scoped0 ↦[(slot4 pB 0).view.set]{fullShare} f) ∗ ∃ f, (thr d L).loc cc1_scoped0 ↦[(slot4 pB 1).view.set]{fullShare} f)
  exact two_parts (by rw [p_set, p_set]; exact halves4)
theorem t_slots : (iprop(∃ f, (thr d L).loc cc1_scoped2 ↦{fullShare} f) : sProp 𝕄)
    = iprop(loose (thr d L) (slot3 tB 0) ∗ loose (thr d L) (slot3 tB 1)) := by
  show _ = iprop((∃ f, (thr d L).loc cc1_scoped2 ↦[(slot3 tB 0).view.set]{fullShare} f) ∗ ∃ f, (thr d L).loc cc1_scoped2 ↦[(slot3 tB 1).view.set]{fullShare} f)
  exact two_parts (by rw [t_set, t_set]; exact halves3)
theorem o_slots : (iprop(∃ f, (thr d L).loc cc1_scoped4 ↦{fullShare} f) : sProp 𝕄)
    = iprop(loose (thr d L) (slot4 oB 0) ∗ loose (thr d L) (slot4 oB 1)) := by
  show _ = iprop((∃ f, (thr d L).loc cc1_scoped4 ↦[(slot4 oB 0).view.set]{fullShare} f) ∗ ∃ f, (thr d L).loc cc1_scoped4 ↦[(slot4 oB 1).view.set]{fullShare} f)
  exact two_parts (by rw [o_set, o_set]; exact halves4)

/-! ## The tile's own semaphores and buffers -/

/-- The six semaphores of the pipeline: two for each operand. -/
def sem6 : Fin 6 → DmaSem sig :=
  ![slotSem cc1_scoped1 0, slotSem cc1_scoped1 1, slotSem cc1_scoped3 0, slotSem cc1_scoped3 1, slotSem cc1_scoped5 0, slotSem cc1_scoped5 1]

theorem sem6_inj : Function.Injective sem6 := by decide
theorem sem6_scoped : ∀ k, (SemLoc.dma (sem6 k) : SemLoc sig).isScoped .scVector = true := by decide

/-- The six cells on the tile. -/
def cells6 : Finset (GSem nD τ sig) := Finset.univ.map ⟨fun k => (thr d L, .dma (sem6 k)), fun k k' e => sem6_inj (by injection e with _ e; injection e)⟩

theorem cells6_own : cells6 d L ⊆ ownCells (thr d L) := by
  intro g hg
  obtain ⟨k, -, rfl⟩ := Finset.mem_map.mp hg
  exact mem_ownCells.mpr ⟨rfl, sem6_scoped k⟩

theorem bigSep_six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]

/-- One of the pipeline's semaphores at zero. -/
abbrev atZero (v : DmaSems sig S2) (n : Fin 2) : sProp 𝕄 := semVal (thr d L, .dma (slotSem v n)) 0
/-- The tile's semaphores that the pipeline does not use, at zero. -/
abbrev otherSems : sProp 𝕄 := bigSep (ownCells (thr d L) \ cells6 d L) fun g => semVal g 0

theorem sems_split : (ownSems0 (thr d L) : sProp 𝕄)
    = iprop((atZero d L cc1_scoped1 0 ∗ atZero d L cc1_scoped1 1 ∗ atZero d L cc1_scoped3 0 ∗ atZero d L cc1_scoped3 1
        ∗ atZero d L cc1_scoped5 0 ∗ atZero d L cc1_scoped5 1) ∗ otherSems d L) := by
  unfold SparseCore.Cfg.ownSems0
  rw [SparseCore.bigSep_sdiff_split' (cells6_own d L)]
  unfold cells6
  rw [BI.bigSep_map, bigSep_six]
  rfl

/-- The three staging buffers. -/
def refs3 : Finset (DevRef τ sig) :=
  {(thr d L).2.devRef cc1_scoped0, (thr d L).2.devRef cc1_scoped2, (thr d L).2.devRef cc1_scoped4}

theorem refs3_own : refs3 d L ⊆ ownRefs (thr d L).2 := by
  intro b hb
  unfold refs3 at hb
  simp only [Finset.mem_insert, Finset.mem_singleton] at hb
  rcases hb with rfl | rfl | rfl <;> exact SparseCore.Cfg.mem_ownRefs_of_owner rfl

/-- The tile's buffers that the pipeline does not use. -/
abbrev otherBufs : sProp 𝕄 := bigSep (ownRefs (thr d L).2 \ refs3 d L) fun b => iprop(∃ f, ((d, b) : Loc nD τ sig) ↦{fullShare} f)

theorem bufs_split : (ownBufs (thr d L) : sProp 𝕄)
    = iprop(((∃ f, (thr d L).loc cc1_scoped0 ↦{fullShare} f) ∗ (∃ f, (thr d L).loc cc1_scoped2 ↦{fullShare} f)
        ∗ ∃ f, (thr d L).loc cc1_scoped4 ↦{fullShare} f) ∗ otherBufs d L) := by
  unfold SparseCore.Cfg.ownBufs
  rw [SparseCore.bigSep_sdiff_split' (refs3_own d L)]
  have h1 : (thr d L).2.devRef cc1_scoped0 ∉ ({(thr d L).2.devRef cc1_scoped2, (thr d L).2.devRef cc1_scoped4} : Finset (DevRef τ sig)) := by
    simp only [Finset.mem_insert, Finset.mem_singleton, not_or]
    exact ⟨fun e => absurd (Proc.devRef_injective _ e) (show (cc1_scoped0 : Ref sig .scVector) ≠ cc1_scoped2 by decide),
      fun e => absurd (Proc.devRef_injective _ e) (show (cc1_scoped0 : Ref sig .scVector) ≠ cc1_scoped4 by decide)⟩
  have h2 : (thr d L).2.devRef cc1_scoped2 ∉ ({(thr d L).2.devRef cc1_scoped4} : Finset (DevRef τ sig)) := by
    simp only [Finset.mem_singleton]
    exact fun e => absurd (Proc.devRef_injective _ e) (show (cc1_scoped2 : Ref sig .scVector) ≠ cc1_scoped4 by decide)
  unfold refs3
  rw [SparseCore.bigSep_insert' h1, SparseCore.bigSep_insert' h2, bigSep_singleton]
  rfl

/-! ## The task -/

variable (q : PosShare TreeShare) (xa : S128x576x768.Idx → Elt F .f32) (xb : S576x768.Idx → Elt F .f32)

/-- The two halves of a read share, one for each slot. -/
abbrev halfOf (q : PosShare TreeShare) (n : Fin 2) : PosShare TreeShare := if n = 0 then q.left else q.right

theorem share_halves {ℓ : Loc nD τ sig} (f : Buf (Elt F) ℓ) :
    (ℓ ↦{q} f : sProp 𝕄) = iprop((ℓ ↦{halfOf q 0} f) ∗ ℓ ↦{halfOf q 1} f) := by
  have h := pointsTo_share (nD := nD) (τ := τ) (sig := sig) (Ix := HIx 1) (Val := Elt F) (Name := ℕ) (U := UU) (Lvl := ℕ) (ℓ := ℓ) (I := Finset.univ) (f := f) (PosShare.mem_left_op_right q)
  exact BI.Entails.antisymm h.1 h.2

/-- The tile's task: from its shares of the patches and the table and its blocks of the result, its blocks of the result hold the sum. -/
theorem tile_task (f₀ : S32x576x768.Idx → Elt F .f32) (O : CellTallies nD τ sig (HIx 1)) (W : Waits sig (HIx 1)) (hO : ∀ g, O g none = 0) :
    (iprop(levAts (K (F := F)).L (K (F := F)).lev ∗ emp
        ∗ ((aM.view.loc (thr d L) ↦{q} xa) ∗ (bM.view.loc (thr d L) ↦{q} xb) ∗ bigSep (Finset.range 36) (oPart d L f₀))
        ∗ scopedBufs (thr d L) ∗ scopedSems0 (thr d L) ∗ owes (thr d L) O W) : sProp 𝕄)
      ⊢ wp frame (wpE (defs₀ (F := F)) 𝒱₀ (thr d L) none) Set.univ
          (cc1__sc_body (F := F) L aM (Memref.isWhole_whole _) bM (Memref.isWhole_whole _) oM (Memref.isWhole_whole _)
            pB (Memref.isWhole_whole _) cc1_scoped1 tB (Memref.isWhole_whole _) cc1_scoped3 oB (Memref.isWhole_whole _) cc1_scoped5)
          fun _ => iprop(((aM.view.loc (thr d L) ↦{q} xa) ∗ (bM.view.loc (thr d L) ↦{q} xb) ∗ bigSep (Finset.range 36) (oPart d L (tailVal xa xb)))
            ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V facts d _ _, SparseCore.Cfg.scopedSems0_V (Val := Elt F) d _ _]
  rw [sems_split d L, bufs_split d L, p_slots, t_slots, o_slots, share_halves q (ℓ := aM.view.loc (thr d L)), share_halves q (ℓ := bM.view.loc (thr d L))]
  iintro ⟨#Hlv, -, ⟨⟨Ha0, Ha1⟩, ⟨Hb0, Hb1⟩, Hblk⟩, ⟨⟨⟨Hp0, Hp1⟩, ⟨Ht0, Ht1⟩, Ho0, Ho1⟩, Hbufs⟩, ⟨⟨Hs0, Hs1, Hs2, Hs3, Hs4, Hs5⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Hwp := (wp_body EC d L (halfOf q) (halfOf q) xa xb f₀ O W 𝒱₀ none) $$ [Ha0 Ha1 Hb0 Hb1 Hblk Hp0 Hp1 Ht0 Ht1 Ho0 Ho1 Hs0 Hs1 Hs2 Hs3 Hs4 Hs5 HO Hmw]
  · unfold idle eight pFree tFree oFree inFree outFree todo owing
    isplitl [Hs0 Hp0 Ha0]
    · isplitl [Hs0]; · iexact Hs0
      isplitl [Hp0]; · iexact Hp0
      iexact Ha0
    isplitl [Hs1 Hp1 Ha1]
    · isplitl [Hs1]; · iexact Hs1
      isplitl [Hp1]; · iexact Hp1
      iexact Ha1
    isplitl [Hs2 Ht0 Hb0]
    · isplitl [Hs2]; · iexact Hs2
      isplitl [Ht0]; · iexact Ht0
      iexact Hb0
    isplitl [Hs3 Ht1 Hb1]
    · isplitl [Hs3]; · iexact Hs3
      isplitl [Ht1]; · iexact Ht1
      iexact Hb1
    isplitl [Hs4 Ho0]
    · isplitl [Hs4]; · iexact Hs4
      iexact Ho0
    isplitl [Hs5 Ho1]
    · isplitl [Hs5]; · iexact Hs5
      iexact Ho1
    isplitl [Hblk]
    · rw [← Finset.range_eq_Ico]; iexact Hblk
    isplitl [Hmw]; · iexact Hmw
    iexists W
    isplitr; · ipureintro; exact fun p hp => Or.inl hp
    iexact HO
  iapply (wp_wand _ _ _) $$ [Hwp]
  · iexact Hwp
  iintro %_ H
  unfold idle eight pFree tFree oFree inFree outFree done owing
  icases H with ⟨⟨Hs0, Hp0, Ha0⟩, ⟨Hs1, Hp1, Ha1⟩, ⟨Hs2, Ht0, Hb0⟩, ⟨Hs3, Ht1, Hb1⟩, ⟨Hs4, Ho0⟩, ⟨Hs5, Ho1⟩, ⟨-, Hblk⟩, -, ⟨%W', %hW', HO⟩⟩
  isplitl [Ha0 Ha1 Hb0 Hb1 Hblk]
  · isplitl [Ha0 Ha1]
    · isplitl [Ha0]; · iexact Ha0
      iexact Ha1
    isplitl [Hb0 Hb1]
    · isplitl [Hb0]; · iexact Hb0
      iexact Hb1
    iexact Hblk
  isplitl [Hp0 Hp1 Ht0 Ht1 Ho0 Ho1 Hbufs]
  · isplitr [Hbufs]
    · isplitl [Hp0 Hp1]
      · isplitl [Hp0]; · iexact Hp0
        iexact Hp1
      isplitl [Ht0 Ht1]
      · isplitl [Ht0]; · iexact Ht0
        iexact Ht1
      isplitl [Ho0]; · iexact Ho0
      iexact Ho1
    iexact Hbufs
  isplitl [Hs0 Hs1 Hs2 Hs3 Hs4 Hs5 Hsems]
  · isplitr [Hsems]
    · isplitl [Hs0]; · iexact Hs0
      isplitl [Hs1]; · iexact Hs1
      isplitl [Hs2]; · iexact Hs2
      isplitl [Hs3]; · iexact Hs3
      isplitl [Hs4]; · iexact Hs4
      iexact Hs5
    iexact Hsems
  iexists W'
  isplitr
  · ipureintro
    intro p hp
    rcases hW' p hp with h | h
    · exact Or.inl h
    · exact Or.inr (Or.inl h)
  iexact HO

end Cert.Proof.Run

end
-- ==== Proof.Handshakes.lean ====
/-
  What the SparseCore call hands out and takes back, and what each party does with it: the call gives each core what its tiles
  are given, each core gives each of its tiles that tile's part, and a tile gives its part back with its blocks of the result summed.
-/
module

public import proofs.«01_k».proof.Proof.Tile

@[expose] public section

noncomputable section

namespace Cert.Proof.Run

open Cert.KernelIdeal Cert.KernelIdeal.Gen
open Cert.Proof.Tile

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ)

/-- What a tile starts from: its part of the arrays as they were at the start. -/
def before (d : Dev nD) (c : Fin 2) (s : Fin 16) : sProp 𝕄 := given d c s (m (aLoc d)) (m (bLoc d)) (m (tailLoc d))
/-- What it ends with: its blocks of the result hold the sum. -/
def after (d : Dev nD) (c : Fin 2) (s : Fin 16) : sProp 𝕄 := given d c s (m (aLoc d)) (m (bLoc d)) (tailVal (m (aLoc d)) (m (bLoc d)))

instance oPart_storable (d : Dev nD) (L : grid1.Coords) (G : S32x576x768.Idx → Elt F .f32) (t : ℕ) :
    BI.Storable (upEmb : UEmb _ 𝕄) (oPart d L G t : sProp 𝕄) := by unfold oPart; infer_instance
instance given_storable (d : Dev nD) (c : Fin 2) (s : Fin 16) (xa : Buf (Elt F) (aLoc d)) (xb : Buf (Elt F) (bLoc d)) (G : Buf (Elt F) (tailLoc d)) :
    BI.Storable (upEmb : UEmb _ 𝕄) (given d c s xa xb G : sProp 𝕄) := by unfold given; infer_instance
instance before_storable (d : Dev nD) (c : Fin 2) (s : Fin 16) : BI.Storable (upEmb : UEmb _ 𝕄) (before m d c s : sProp 𝕄) := by
  unfold before; infer_instance
instance after_storable (d : Dev nD) (c : Fin 2) (s : Fin 16) : BI.Storable (upEmb : UEmb _ 𝕄) (after m d c s : sProp 𝕄) := by
  unfold after; infer_instance

theorem nCore_zero : (K (F := F)).nCore 0 = 2 := rfl
theorem nSub_zero : (K (F := F)).nSub 0 = 16 := rfl

/-- The call's handshakes. -/
def P : (K (F := F)).Pay (nD := nD) (Val := Elt F) (Name := ℕ) (U := UU) where
  st := fun q d c => match q with | 0 => bigSep Finset.univ (before m d (Fin.cast nCore_zero c))
  dn := fun q d c => match q with | 0 => bigSep Finset.univ (after m d (Fin.cast nCore_zero c))
  go := fun q d c i => match q with | 0 => before m d (Fin.cast nCore_zero c) (Fin.cast nSub_zero i)
  td := fun q d c i => match q with | 0 => after m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ (before m d (Fin.cast nCore_zero c))))
  dn q d c := match q with
    | 0 => (inferInstance : BI.Storable (upEmb : UEmb _ 𝕄) (bigSep Finset.univ (after m d (Fin.cast nCore_zero c))))
  go q d c i := match q with
    | 0 => (inferInstance : BI.Storable (upEmb : UEmb _ 𝕄) (before m d (Fin.cast nCore_zero c) (Fin.cast nSub_zero i)))
  td q d c i := match q with
    | 0 => (inferInstance : BI.Storable (upEmb : UEmb _ 𝕄) (after m d (Fin.cast nCore_zero c) (Fin.cast nSub_zero i)))

/-- A core's part is its tiles' parts. -/
theorem vecSplit : (K (F := F)).VecSplit' (P m) 0 := by
  intro d c
  show (bigSep (Finset.univ : Finset (Fin 16)) (before m d (Fin.cast nCore_zero c)) : sProp 𝕄) ⊢ |={Set.univ}=> iprop(
      (bigSep (Finset.univ : Finset (Fin 16)) (before m d (Fin.cast nCore_zero c)))
      ∗ ((bigSep (Finset.univ : Finset (Fin 16)) (after m d (Fin.cast nCore_zero c)))
          -∗ bigSep (Finset.univ : Finset (Fin 16)) (after m d (Fin.cast nCore_zero c))))
  iintro H; imodintro
  isplitl [H]; · iexact H
  iintro H; iexact H

theorem body_on_tile (c : Fin τ.nSC) (s : Fin τ.nSub) :
    defs₀ (F := F) (.scVector c s) 1 ()
      = SparseCore.onTile hcore1 hsub1 (fun c s => cc1__sc_body (F := F) (tileAt c s)
          aM (Memref.isWhole_whole _) bM (Memref.isWhole_whole _) oM (Memref.isWhole_whole _)
          pB (Memref.isWhole_whole _) cc1_scoped1 tB (Memref.isWhole_whole _) cc1_scoped3 oB (Memref.isWhole_whole _) cc1_scoped5) ⟨⟩ c s := rfl

/-- Each tile of the call makes good what the call hands it. -/
theorem tileObl : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [body_on_tile]; simp only [SparseCore.onTile, hci, and_self, ↓reduceDIte]
  exact tile_task d (tileOf (Fin.cast nCore_zero c) (Fin.cast nSub_zero i)) (qAt (Fin.cast nCore_zero c) (Fin.cast nSub_zero i))
    (m (aLoc d)) (m (bLoc d)) (m (tailLoc d)) O W hO

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call takes from the TensorCore, and what it gives back: the three arrays whole. -/
theorem st_all (d : Dev nD) : (bigSep Finset.univ fun c : Fin ((K (F := F)).nCore 0) => (P m).st 0 d c)
    = iprop((aLoc d ↦{fullShare} m (aLoc d)) ∗ (bLoc d ↦{fullShare} m (bLoc d)) ∗ (tailLoc d ↦{fullShare} m (tailLoc d))) := by
  refine (bigSep_cores (F := F) fun c => bigSep Finset.univ (before m d c)).trans ?_
  rw [given_all]
  rfl
theorem dn_all (d : Dev nD) : (bigSep Finset.univ fun c : Fin ((K (F := F)).nCore 0) => (P m).dn 0 d c)
    = iprop((aLoc d ↦{fullShare} m (aLoc d)) ∗ (bLoc d ↦{fullShare} m (bLoc d)) ∗ (tailLoc d ↦{fullShare} tailVal (m (aLoc d)) (m (bLoc d)))) := by
  refine (bigSep_cores (F := F) fun c => bigSep Finset.univ (after m d c)).trans ?_
  rw [given_all]
  rfl

theorem bigSep_nothing {I : Type} (s : Finset I) : (bigSep s fun _ => iprop(emp)) = (iprop(emp) : sProp 𝕄) := BI.bigSep_emp_const s

/-- The initial ghost state gives what the launch asks of it. -/
theorem hu₀ : (ownU (u₀ (F := F)) : sProp 𝕄)
    ⊢ |={Set.univ}=> iprop(BI.own (EH (Rounds.initOf (K (F := F)).hsCells (K (F := F)).hsToks)) ∗ (bigSep Finset.univ fun d : Dev nD => ghost d)
        ∗ bigSep Finset.univ fun thr : Thread nD τ => bigSep Finset.univ fun q : Fin 1 => (P m).x q thr) := by
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iintro Hu
  imod (ghosts (F := F)) $$ Hu with ⟨Hh, Hg⟩
  imodintro
  isplitl [Hh]; · iexact Hh
  isplitl [Hg]; · iexact Hg
  iempintro

end Cert.Proof.Run

end
-- ==== Proof.Host.lean ====
/-
  The end of the program: the tiles' result goes over the last 32 batches of the TensorCore's, which makes the whole sum.
-/
module

public import proofs.«01_k».proof.Proof.HeadValue
public import proofs.«01_k».proof.Proof.Blocks
public import Idealize.ShloMosaic.Lib.StableHlo.Run
public import Idealize.ShloMosaic.Lib.WordCmp

@[expose] public section

noncomputable section

namespace Cert.Proof.Run

open Cert.KernelIdeal Cert.KernelIdeal.Gen
open Cert.Proof.Tile

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The buffers of the program's last operations: the TensorCore's result, the tiles', the three starts, and the whole result. -/
abbrev vH : DevRef τ sig := Proc.devRef .tc (main_v0 : Ref sig .tc)
abbrev vT : DevRef τ sig := Proc.devRef .tc (main_v1 : Ref sig .tc)
abbrev vC : DevRef τ sig := Proc.devRef .tc (main_c : Ref sig .tc)
abbrev vC0 : DevRef τ sig := Proc.devRef .tc (main_c_0 : Ref sig .tc)
abbrev vC1 : DevRef τ sig := Proc.devRef .tc (main_c_1 : Ref sig .tc)
abbrev vR : DevRef τ sig := Proc.devRef .tc (main_v2 : Ref sig .tc)
abbrev last6 : Finset (DevRef τ sig) := {vH, vT, vC, vC0, vC1, vR}

abbrev wholeLoc (d : Dev nD) : Loc nD τ sig := (d : Thread nD τ).loc main_v2

theorem held_six (d : Dev nD) (W : Valuation τ sig (Elt F)) : (StableHlo.held (T d) last6 W : sProp 𝕄)
    = iprop((headLoc d ↦{fullShare} W vH) ∗ (tailLoc d ↦{fullShare} W vT) ∗ ((d : Thread nD τ).loc main_c ↦{fullShare} W vC)
        ∗ ((d : Thread nD τ).loc main_c_0 ↦{fullShare} W vC0) ∗ ((d : Thread nD τ).loc main_c_1 ↦{fullShare} W vC1) ∗ (wholeLoc d ↦{fullShare} W vR)) := by
  unfold StableHlo.held last6
  rw [SparseCore.bigSep_insert' (by decide), SparseCore.bigSep_insert' (by decide), SparseCore.bigSep_insert' (by decide),
    SparseCore.bigSep_insert' (by decide), SparseCore.bigSep_insert' (by decide), bigSep_singleton]

/-- The three starts and the update, as the program writes them. -/
abbrev opC : HloOp τ sig (Elt F) := StableHlo.nullary main_c (constantI S_ 32 96#32)
abbrev opC0 : HloOp τ sig (Elt F) := StableHlo.nullary main_c_0 (constantI S_ 32 0#32)
abbrev opC1 : HloOp τ sig (Elt F) := StableHlo.nullary main_c_1 (constantI S_ 32 0#32)
abbrev opR : HloOp τ sig (Elt F) :=
  StableHlo.binaryIndexed main_v0 main_v1 ![main_c, main_c_0, main_c_1] ⟨S_, .i32⟩ main_v2
    ((fun x u i => Host.dynamicUpdateSlice x u (fun k => (i k (Shape.Idx.first h_S_)).toInt) updateFits_S128x576x768_S32x576x768) :
      (⟨S128x576x768, .f32⟩ : BufTy).Contents (Elt F) → (⟨S32x576x768, .f32⟩ : BufTy).Contents (Elt F) → (Fin 3 → (⟨S_, .i32⟩ : BufTy).Contents (Elt F))
        → (⟨S128x576x768, .f32⟩ : BufTy).Contents (Elt F))

theorem fits : S128x576x768.Slices ![96, 0, 0] S32x576x768 := by decide

/-- The update puts the tiles' result over batches 96 to 127. -/
theorem update_apply (x : S128x576x768.Idx → Elt F .f32) (u : S32x576x768.Idx → Elt F .f32) (i : S128x576x768.Idx) :
    updateSlice x u ![96, 0, 0] fits i
      = if h : 96 ≤ (i 0).val then u (ValueIdx.ix3 ⟨(i 0).val - 96, by have : (i 0).val < 128 := (i 0).isLt; omega⟩ (i 1) (i 2)) else x i := by
  have l0 : (i 0).val < 128 := (i 0).isLt
  have l1 : (i 1).val < 576 := (i 1).isLt
  have l2 : (i 2).val < 768 := (i 2).isLt
  unfold updateSlice
  by_cases h : 96 ≤ (i 0).val
  · rw [dif_pos h, dif_pos]
    · refine congrArg u (funext fun a => ?_)
      match a with
      | ⟨0, _⟩ => rfl
      | ⟨1, _⟩ => rfl
      | ⟨2, _⟩ => rfl
    · intro a
      match a with
      | ⟨0, _⟩ => exact ⟨h, show (i 0).val < 96 + 32 by omega⟩
      | ⟨1, _⟩ => exact ⟨Nat.zero_le _, show (i 1).val < 0 + 576 by omega⟩
      | ⟨2, _⟩ => exact ⟨Nat.zero_le _, show (i 2).val < 0 + 768 by omega⟩
  · rw [dif_neg h, dif_neg fun hin => h (hin 0).1]

/-- A first result that is the sum on batches 0 to 95 and the tiles' sums over the rest are the whole sum. -/
theorem update_sum (xa : S128x576x768.Idx → Elt F .f32) (xb : S576x768.Idx → Elt F .f32) (x : S128x576x768.Idx → Elt F .f32)
    (hx : ∀ i : S128x576x768.Idx, (i 0).val < 96 → x i = sumVal xa xb i) :
    updateSlice x (tailVal xa xb) ![96, 0, 0] fits = sumVal xa xb := by
  funext i
  rw [update_apply]
  by_cases h : 96 ≤ (i 0).val
  · rw [dif_pos h]
    refine congrArg₂ (FloatOps.addf (φ := .f32)) (congrArg xa (funext fun a => ?_)) rfl
    match a with
    | ⟨0, _⟩ => exact Fin.ext (Nat.sub_add_cancel h)
    | ⟨1, _⟩ => rfl
    | ⟨2, _⟩ => rfl
  · rw [dif_neg h]; exact hx i (by omega)

/-- What the buffers hold after the last operations. -/
def ended (W : Valuation τ sig (Elt F)) : Valuation τ sig (Elt F) := opR.result (opC1.result (opC0.result (opC.result W)))

/-- What the update reads: the two results, and the three starts at 96, 0, 0. -/
theorem before_head (W : Valuation τ sig (Elt F)) : (opC1.result (opC0.result (opC.result W))) vH = W vH :=
  Eq.trans (StableHlo.nullary_result_ne _ _ _ _ (by decide)) (Eq.trans (StableHlo.nullary_result_ne _ _ _ _ (by decide)) (StableHlo.nullary_result_ne _ _ _ _ (by decide)))
theorem before_tail (W : Valuation τ sig (Elt F)) : (opC1.result (opC0.result (opC.result W))) vT = W vT :=
  Eq.trans (StableHlo.nullary_result_ne _ _ _ _ (by decide)) (Eq.trans (StableHlo.nullary_result_ne _ _ _ _ (by decide)) (StableHlo.nullary_result_ne _ _ _ _ (by decide)))
theorem before_c (W : Valuation τ sig (Elt F)) : (opC1.result (opC0.result (opC.result W))) vC = constantI S_ 32 96#32 :=
  Eq.trans (StableHlo.nullary_result_ne _ _ _ _ (by decide)) (Eq.trans (StableHlo.nullary_result_ne _ _ _ _ (by decide)) (StableHlo.nullary_result ..))
theorem before_c0 (W : Valuation τ sig (Elt F)) : (opC1.result (opC0.result (opC.result W))) vC0 = constantI S_ 32 0#32 :=
  Eq.trans (StableHlo.nullary_result_ne _ _ _ _ (by decide)) (StableHlo.nullary_result ..)
theorem before_c1 (W : Valuation τ sig (Elt F)) : (opC1.result (opC0.result (opC.result W))) vC1 = constantI S_ 32 0#32 :=
  StableHlo.nullary_result ..

/-- The whole result holds the first with the tiles' over its last 32 batches. -/
theorem ended_whole (W : Valuation τ sig (Elt F)) : ended W vR = updateSlice (W vH) (W vT) ![96, 0, 0] fits := by
  unfold ended
  refine (StableHlo.binaryIndexed_result ..).trans ?_
  rw [before_head, before_tail]
  refine WordCmp.dynamicUpdateSlice_eq_update (s := S128x576x768) (u := S32x576x768) _ _ _ _ ![96, 0, 0] fits fun a => ?_
  match a with
  | ⟨0, _⟩ => exact congrArg (fun f => BitVec.toInt (f (Shape.Idx.first h_S_))) (before_c W)
  | ⟨1, _⟩ => exact congrArg (fun f => BitVec.toInt (f (Shape.Idx.first h_S_))) (before_c0 W)
  | ⟨2, _⟩ => exact congrArg (fun f => BitVec.toInt (f (Shape.Idx.first h_S_))) (before_c1 W)

end Cert.Proof.Run

end
-- ==== Proof.Main.lean ====
/-
  The whole program from the launch: the TensorCore's pipeline, the call on the tiles, the last operations; both arguments are
  kept and the result is the sum.
-/
module

public import proofs.«01_k».proof.Proof.Region
public import proofs.«01_k».proof.Proof.HeadValue
public import proofs.«01_k».proof.Proof.Handshakes
public import proofs.«01_k».proof.Proof.Host
public import Idealize.ShloMosaic.Lib.SparseCore.Quiescent

@[expose] public section

noncomputable section

namespace Cert.Proof.Run

open Cert.KernelIdeal Cert.KernelIdeal.Gen
open Cert.Proof.Tile

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (ρ : Dev nD → PrngReg)

/-! ## The TensorCore's pipeline -/

/-- What the pipeline leaves in its result. -/
def headVal (d : Dev nD) : Buf (Elt F) (headLoc d) := (dat m d).arrAt 2 cfg0.N

theorem headVal_apply (d : Dev nD) (i : S128x576x768.Idx) (hi : (i 0).val < 96) :
    headVal m d i = sumVal (m (aLoc d)) (m (bLoc d)) i := head_apply m d i hi

/-- The arrays after the pipeline: the two it reads as they were, and its result. -/
theorem arrays_end (d : Dev nD) : ((dat m d).arrays ((dat m d).arrAt · cfg0.N) : sProp 𝕄)
    = iprop((aLoc d ↦{fullShare} m (aLoc d)) ∗ (bLoc d ↦{fullShare} m (bLoc d)) ∗ (headLoc d ↦{fullShare} headVal m d)) := by
  refine (Pipeline.arrays_eq (Pipeline.pin (pcfgs (F := F)) adm) (dats m) 0 d launch0.arr_whole ((dat m d).share_full fun _ => rfl) _).trans ?_
  refine (bigSep_W0 _).trans ?_
  have h0 : (dat m d).arrAt 0 cfg0.N = m (aLoc d) := (dat m d).arrAt_in 0 rfl _
  have h1 : (dat m d).arrAt 1 cfg0.N = m (bLoc d) := (dat m d).arrAt_in 1 rfl _
  exact congrArg₂ (fun x y => iprop((aLoc d ↦{fullShare} x) ∗ (bLoc d ↦{fullShare} y) ∗ (headLoc d ↦{fullShare} headVal m d))) h0 h1

theorem others_eq (d : Dev nD) : (others m d : sProp 𝕄)
    = iprop((tailLoc d ↦{fullShare} m (tailLoc d)) ∗ ((d : Thread nD τ).loc main_c ↦{fullShare} m ((d : Thread nD τ).loc main_c))
        ∗ ((d : Thread nD τ).loc main_c_0 ↦{fullShare} m ((d : Thread nD τ).loc main_c_0))
        ∗ ((d : Thread nD τ).loc main_c_1 ↦{fullShare} m ((d : Thread nD τ).loc main_c_1)) ∗ (wholeLoc d ↦{fullShare} m (wholeLoc d))) :=
  unscopedRest0_eq d fun b => m ((d : Thread nD τ).loc b)

set_option backward.isDefEq.respectTransparency.types false in
/-- The pipeline's call, before the SparseCore call's definitions are added. -/
theorem wp_region [∀ e, Nonempty (Elt F e)] (d : Dev nD) (Q : PUnit → sProp 𝕄) :
    iprop((iprop(boundary (d.tc : Thread nD τ) ∗ (region m).post d) -∗ wp frame (wpE (D (F := F)) 𝒱 (d.tc : Thread nD τ) none) Set.univ (.ret ⟨⟩) Q)
        ∗ boundary (d.tc : Thread nD τ) ∗ (region m).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (.op (.customCall (Pipeline.entry 0) ()) .ret) Q :=
  Pipeline.RegionSeg.wp (pcfgs (F := F)) adm (dats m) none cellOf_pin EP defs₀ 𝒱₀ (K (F := F)).L (K (F := F)).lev
    (region m) d none (fun u h => nomatch h) .ret Q

/-- The pipeline's call. -/
def headCall : Prog (TpuEff nD τ sig (Elt F) (ΛP (F := F)) .tc) PUnit := .op (.customCall (Pipeline.entry 0) ()) .ret

theorem headCall_lift : SparseCore.liftProg (Q := 1) (headCall (F := F))
    = Prog.lift (.customCall (SparseCore.inner (Pipeline.entry 0)) ()) := rfl

theorem wp_headCall [∀ e, Nonempty (Elt F e)] (d : Dev nD) (Q : PUnit → sProp 𝕄) :
    iprop((iprop(boundary (T d) ∗ (region m).post d) -∗ Q ⟨⟩)
        ∗ boundary (T d) ∗ (region m).pre d ∗ levAts (K (F := F)).L (K (F := F)).lev ∗ ghost d)
      ⊢ wp frame (wpE (D (F := F)) 𝒱 (T d) none) Set.univ headCall Q := by
  unfold ghost headCall
  iintro ⟨Hk, Hb, Hpre, HL, Hg⟩
  iapply (wp_region m d Q)
  isplitl [Hk]
  · iintro H
    rw [wp_ret]
    ihave HQ := Hk $$ H
    imodintro; iexact HQ
  isplitl [Hb]; · iexact Hb
  isplitl [Hpre]; · iexact Hpre
  isplitl [HL]; · iexact HL
  iexact Hg

/-- The same, as the program makes it. -/
theorem wp_head [∀ e, Nonempty (Elt F e)] (d : Dev nD) (Q : PUnit → sProp 𝕄) :
    iprop((iprop(boundary (T d) ∗ (region m).post d) -∗ Q ⟨⟩)
        ∗ boundary (T d) ∗ (region m).pre d ∗ levAts (K (F := F)).L (K (F := F)).lev ∗ ghost d)
      ⊢ wp frame (wpE ((K (F := F)).defs (D (F := F))) 𝒱 (T d) none) Set.univ
          (Prog.lift (.customCall (SparseCore.inner (Pipeline.entry 0)) ())) Q := by
  rw [← headCall_lift]
  exact (wp_headCall m d Q).trans ((K (F := F)).wp_liftProg (D (F := F)) 𝒱 (T d) Set.univ none headCall Q)

/-! ## The last operations -/

/-- What the buffers of the last operations hold before them. -/
def start (d : Dev nD) : Valuation τ sig (Elt F) :=
  Function.update (Function.update (fun b => m (d, b)) vH (headVal m d)) vT (tailVal (m (aLoc d)) (m (bLoc d)))

theorem start_vH (d : Dev nD) : start m d vH = headVal m d := by
  unfold start
  rw [Function.update_of_ne (by decide), Function.update_self]
theorem start_vT (d : Dev nD) : start m d vT = tailVal (m (aLoc d)) (m (bLoc d)) := by
  unfold start
  rw [Function.update_self]
theorem start_other (d : Dev nD) (b : DevRef τ sig) (hH : b ≠ vH) (hT : b ≠ vT) : start m d b = m (d, b) := by
  unfold start
  rw [Function.update_of_ne hT, Function.update_of_ne hH]

theorem held_start (d : Dev nD) : (StableHlo.held (T d) last6 (start m d) : sProp 𝕄)
    = iprop((headLoc d ↦{fullShare} headVal m d) ∗ (tailLoc d ↦{fullShare} tailVal (m (aLoc d)) (m (bLoc d)))
        ∗ ((d : Thread nD τ).loc main_c ↦{fullShare} m ((d : Thread nD τ).loc main_c))
        ∗ ((d : Thread nD τ).loc main_c_0 ↦{fullShare} m ((d : Thread nD τ).loc main_c_0))
        ∗ ((d : Thread nD τ).loc main_c_1 ↦{fullShare} m ((d : Thread nD τ).loc main_c_1)) ∗ (wholeLoc d ↦{fullShare} m (wholeLoc d))) := by
  rw [held_six, start_vH, start_vT, start_other m d vC (by decide) (by decide), start_other m d vC0 (by decide) (by decide),
    start_other m d vC1 (by decide) (by decide), start_other m d vR (by decide) (by decide)]

/-- The whole result after them. -/
theorem ended_start (d : Dev nD) : ended (start m d) vR = sumVal (m (aLoc d)) (m (bLoc d)) := by
  rw [ended_whole, start_vH, start_vT]
  exact update_sum _ _ _ (headVal_apply m d)

theorem held_ended (d : Dev nD) : (StableHlo.held (T d) last6 (ended (start m d)) : sProp 𝕄)
    ⊢ wholeLoc d ↦{fullShare} sumVal (m (aLoc d)) (m (bLoc d)) := by
  rw [held_six, ended_start]
  iintro ⟨-, -, -, -, -, H⟩
  iexact H

/-- They touch no other buffer. -/
theorem bufs_c : (opC (F := F)).bufs ⊆ last6 := show ({vC} : Finset (DevRef τ sig)) ⊆ last6 by decide
theorem bufs_c0 : (opC0 (F := F)).bufs ⊆ last6 := show ({vC0} : Finset (DevRef τ sig)) ⊆ last6 by decide
theorem bufs_c1 : (opC1 (F := F)).bufs ⊆ last6 := show ({vC1} : Finset (DevRef τ sig)) ⊆ last6 by decide
theorem bufs_r : (opR (F := F)).bufs ⊆ last6 :=
  show (insert vH (insert vT (insert vR (Finset.univ.image fun k => ((![main_c, main_c_0, main_c_1] k : Ref sig .tc) : DevRef τ sig)))) : Finset (DevRef τ sig)) ⊆ last6 by decide

/-! ## The program -/

/-- The TensorCore's debts, lent to the pipeline. -/
theorem tcSt_debts (d : Dev nD) : ((K (F := F)).tcSt EH d 0 : sProp 𝕄)
    ⊢ iprop(debts d ∗ (debts d -∗ (K (F := F)).tcSt EH d 0)) := by
  unfold SparseCore.Cfg.tcSt debts Pipeline.owesWithin
  iintro ⟨⟨%W, %hW, HO⟩, Hrest⟩
  isplitl [HO]
  · iexists W; isplitr; · ipureintro; exact fun p hp => hW p hp
    iexact HO
  iintro ⟨%W', %hW', HO⟩
  isplitl [HO]
  · iexists W'; isplitr; · ipureintro; exact fun p hp => hW' hp
    iexact HO
  iexact Hrest

/-- What the program ends with: both arguments as they were, and the sum. -/
def FIN (d : Dev nD) : sProp 𝕄 :=
  iprop((aLoc d ↦{fullShare} m (aLoc d)) ∗ (bLoc d ↦{fullShare} m (bLoc d)) ∗ (wholeLoc d ↦{fullShare} sumVal (m (aLoc d)) (m (bLoc d))))

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, bufs, Hts, -⟩, Hg⟩
  ihave Hlev := (SparseCore.Cfg.ctx_levAts κ) $$ Hctx
  ihave Hst := (tcSt_debts d) $$ Hst
  icases Hst with ⟨Hd, Hback⟩
  -- the TensorCore's pipeline
  iapply (wp_head m d _)
  isplitr [Hb bufs Hd Hlev Hg]
  swap
  · isplitl [Hb]; · iexact Hb
    isplitl [bufs Hd]
    · dsimp only [region]
      isplitl [bufs]; · iexact bufs
      iexact Hd
    isplitl [Hlev]; · iexact Hlev
    iexact Hg
  iintro ⟨Hb, Hpost⟩
  dsimp only [region]
  rw [arrays_end, others_eq]
  icases Hpost with ⟨⟨Ha, Hp, Hh⟩, ⟨Ht, Hc, Hc0, Hc1, Hr⟩, Hd⟩
  -- the call on the tiles
  iapply ((K (F := F)).wp_run (D (F := F)) 𝒱 (EH := EH) (P := P m) κ d 0)
  isplitr; · iexact Hctx
  isplitl [Hback Hd]; · iapply Hback $$ Hd
  isplitl [Ha Hp Ht]
  · rw [st_all]
    isplitl [Ha]; · iexact Ha
    isplitl [Hp]; · iexact Hp
    iexact Ht
  rw [dn_all]
  iintro ⟨Hst, Ha, Hp, Ht⟩
  -- the last operations
  ihave Hheld := (Entails.of_eq (held_start m d).symm) $$ [Hh Ht Hc Hc0 Hc1 Hr]
  · isplitl [Hh]; · iexact Hh
    isplitl [Ht]; · iexact Ht
    isplitl [Hc]; · iexact Hc
    isplitl [Hc0]; · iexact Hc0
    isplitl [Hc1]; · iexact Hc1
    iexact Hr
  iapply (StableHlo.wp_hlo_within 𝒱 (SparseCore.T d) none Set.univ (op := opC) (S := last6) bufs_c (V := start m d)) $$ [Hb Hheld]
  · isplitl [Hb] <;> iassumption
  iintro ⟨Hb, Hheld⟩
  rw [wp_ret]; imodintro
  iapply (StableHlo.wp_hlo_within 𝒱 (SparseCore.T d) none Set.univ (op := opC0) (S := last6) bufs_c0) $$ [Hb Hheld]
  · isplitl [Hb] <;> iassumption
  iintro ⟨Hb, Hheld⟩
  rw [wp_ret]; imodintro
  iapply (StableHlo.wp_hlo_within 𝒱 (SparseCore.T d) none Set.univ (op := opC1) (S := last6) bufs_c1) $$ [Hb Hheld]
  · isplitl [Hb] <;> iassumption
  iintro ⟨Hb, Hheld⟩
  rw [wp_ret]; imodintro
  iapply (StableHlo.wp_hlo_within 𝒱 (SparseCore.T d) none Set.univ (op := opR) (S := last6) bufs_r) $$ [Hb Hheld]
  · isplitl [Hb] <;> iassumption
  iintro ⟨Hb, Hheld⟩
  rw [wp_ret]; imodintro
  ihave Hr := (held_ended m d) $$ [Hheld]
  · iexact Hheld
  imodintro
  isplitl [Hst]; · iexact Hst
  isplitl [Ha Hp Hr]
  · unfold FIN
    isplitl [Ha]; · iexact Ha
    isplitl [Hp] <;> iassumption
  isplitl [Hb] <;> iassumption

/-- What a device's memory holds at the end. -/
def fq (d : Dev nD) (s' : Phys nD τ sig (Elt F)) : Prop :=
  s'.mem.mem (aLoc d) = m (aLoc d) ∧ s'.mem.mem (bLoc d) = m (bLoc d) ∧ s'.mem.mem (wholeLoc d) = sumVal (m (aLoc d)) (m (bLoc d))

theorem hfin (d : Dev nD) (s' : Phys nD τ sig (Elt F)) : iprop(FIN m d ∗ SI s') ⊢ (⌜fq m d s'⌝ : sProp 𝕄) := by
  unfold FIN
  iintro ⟨⟨Ha, Hp, Hr⟩, HS⟩
  ihave H := (persistent_entails_right (SI_pointsTo_agree (st := s') (ℓ := aLoc d) (I := Finset.univ) (q := fullShare) (f := m (aLoc d)))) $$ [HS Ha]
  · isplitl [HS] <;> iassumption
  icases H with ⟨%ha, HS, -⟩
  ihave H := (persistent_entails_right (SI_pointsTo_agree (st := s') (ℓ := bLoc d) (I := Finset.univ) (q := fullShare) (f := m (bLoc d)))) $$ [HS Hp]
  · isplitl [HS] <;> iassumption
  icases H with ⟨%hp, HS, -⟩
  ihave H := (SI_pointsTo_agree (st := s') (ℓ := wholeLoc d) (I := Finset.univ) (q := fullShare) (f := sumVal (m (aLoc d)) (m (bLoc d)))) $$ [HS Hr]
  · isplitl [HS] <;> iassumption
  icases H with %hr
  ipureintro
  exact ⟨funext fun i => ha i (Finset.mem_univ i), funext fun i => hp i (Finset.mem_univ i), funext fun i => hr i (Finset.mem_univ i)⟩

/-- The same of a whole run's end, every semaphore being back at zero. -/
def QC (r : PUnit × MemSt nD τ sig (Elt F)) : Prop :=
  (∀ d : Dev nD, r.2.mem (aLoc d) = m (aLoc d) ∧ r.2.mem (bLoc d) = m (bLoc d) ∧ r.2.mem (wholeLoc d) = sumVal (m (aLoc d)) (m (bLoc d)))
    ∧ r.2.sem = fun _ => 0

/-- The run. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun d => ghost d) (FIN m) (u₀ (F := F)) (sep_elim_left.trans (hu₀ m)) (hmain m ρ) (fq m) (hfin m) (QC m) (fun _ h hz => ⟨h, hz⟩)

end Cert.Proof.Run

end
-- ==== Proof.RefValue.lean ====
/-
  What the reference computes: the positions are 0 to 575, all rows of the table, so the rows taken are the table itself and the
  result is the sum of the patches and the table.
-/
module

public import proofs.«01_k».proof.Proof.HeadValue
public import proofs.«01_k».proof.Proof.Gen.ReferenceIdeal
public import proofs.«01_k».proof.Proof.Gen.ReferenceIdeal.Run
public import Idealize.ShloMosaic.Lib.ReduceAll
public import Idealize.ShloMosaic.Lib.ValueIdxCore

@[expose] public section

noncomputable section

namespace Cert.Proof.Ref

open Cert.ReferenceIdeal Cert.ReferenceIdeal.Gen
open Idealize.ShloMosaic Idealize.SL.Sem

variable {F : FTy → Type} [FloatOps F]

/-! ## The rows taken -/

/-- The positions: 0 + 1 · 0, 0 + 1 · 1, … -/
abbrev positions : IVec S576 32 :=
  addi (broadcastInDim S576 ![] bcast_S_S576 (constantI S_ 32 0#32)) (muli (broadcastInDim S576 ![] bcast_S_S576 (constantI S_ 32 1#32)) (iotaInDim S576 32 0))
/-- The positions with negative ones counted from the end. -/
abbrev wrapped : IVec S576 32 :=
  select (cmpi .slt positions (broadcastInDim S576 ![] bcast_S_S576 (constantI S_ 32 0#32)))
    (addi positions (broadcastInDim S576 ![] bcast_S_S576 (constantI S_ 32 576#32))) positions
/-- The rows to take, one per result row. -/
abbrev rows : IVec S576x1 32 := broadcastInDim S576x1 ![0] bcast_S576_S576x1_0 wrapped
/-- Whether each is a row of the table. -/
abbrev inTable : IVec S576x1 1 :=
  andi (cmpi .sge rows (broadcastInDim S576x1 ![] bcast_S_S576x1 (constantI S_ 32 0#32)))
    (cmpi .sle rows (broadcastInDim S576x1 ![0, 1] bcast_S1x1_S576x1_0_1 (broadcastInDim S1x1 ![1] bcast_S1_S1x1_1 (constantI S1 32 575#32))))
abbrev allIn : IVec S576 1 := Host.reduce IntOp.andi inTable (constantI S_ 1 1#1) reducesTo_S576x1_S576_d1 h_S_
/-- The rows taken, a row that is not of the table filled. -/
abbrev taken (b : S576x768.Idx → Elt F .f32) : S576x768.Idx → Elt F .f32 :=
  select (broadcastInDim S576x768 ![0] bcast_S576_S576x768_0 allIn)
    (Host.gather gather_S576x768_S576x1_S576x768_1_0_n_n_0_1_1768 b rows)
    (broadcastInDim S576x768 ![] bcast_S_S576x768 (constant S_ .f32 0x7FC00000#32))

/-- One word of the positions, as the program computes it. -/
abbrev word (k : Fin 576) : BitVec 32 := IntOp.addi 0#32 (IntOp.muli 1#32 (BitVec.ofNat 32 k.val))
abbrev wrap (w : BitVec 32) : BitVec 32 := Scalar.select (IntOp.cmpi .slt w 0#32) (IntOp.addi w 576#32) w

theorem word_facts : ∀ k : Fin 576, (wrap (word k)).toInt.toNat = k.val
    ∧ IntOp.andi (IntOp.cmpi .sge (wrap (word k)) 0#32) (IntOp.cmpi .sle (wrap (word k)) 575#32) = 1#1 := by
  decide +kernel

theorem wrapped_apply (i : S576.Idx) : wrapped i = wrap (word (i 0)) := rfl

theorem rows_apply (y : S576x1.Idx) : rows y = wrap (word (y 0)) :=
  (wrapped_apply _).trans (congrArg (fun k => wrap (word k)) (Fin.ext rfl))

theorem inTable_one (y : S576x1.Idx) : inTable y = 1#1 := by
  show IntOp.andi (IntOp.cmpi .sge (rows y) 0#32) (IntOp.cmpi .sle (rows y) 575#32) = 1#1
  rw [rows_apply]
  exact (word_facts (y 0)).2

theorem allIn_one (i : S576.Idx) : allIn i = 1#1 := Host.reduce_andi_one _ _ _ _ i rfl inTable_one

/-- Result row `y 0` is row `rows (y 0)` of the table, which is row `y 0`. -/
theorem gather_apply (b : S576x768.Idx → Elt F .f32) (y : S576x768.Idx) :
    Host.gather gather_S576x768_S576x1_S576x768_1_0_n_n_0_1_1768 b rows y = b y := by
  unfold Host.gather
  refine congrArg b (funext fun a => Fin.ext ?_)
  set g := gather_S576x768_S576x1_S576x768_1_0_n_n_0_1_1768 with hg
  show g.start y rows a + g.batchCoord y a + g.offCoord y a = _
  match a with
  | ⟨0, _⟩ =>
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (⟨0, Nat.zero_lt_two⟩ : Fin S576x768.rank) ∈ g.startIndexMap from List.mem_singleton.mpr rfl), rows_apply]
    have l0 : (y 0).val < 576 := (y 0).isLt
    refine (congrArg (fun n => min n 575) (word_facts (y 0)).1).trans (min_eq_left (by omega))
  | ⟨1, _⟩ =>
    rw [GatherDims.batchCoord_eq_zero _ _ _ List.not_mem_nil]
    unfold GatherDims.start
    rw [dif_neg (show (⟨1, Nat.one_lt_two⟩ : Fin S576x768.rank) ∉ g.startIndexMap from by decide)]
    unfold GatherDims.offCoord
    rw [dif_pos (show (⟨1, Nat.one_lt_two⟩ : Fin S576x768.rank) ∈ g.sKept from by decide)]
    simp only [Nat.zero_add, Nat.add_zero]
    rfl

theorem taken_eq (b : S576x768.Idx → Elt F .f32) : taken b = b := by
  funext y
  show Scalar.select (broadcastInDim S576x768 ![0] bcast_S576_S576x768_0 allIn y) _ _ = _
  rw [show broadcastInDim S576x768 ![0] bcast_S576_S576x768_0 allIn y = 1#1 from allIn_one _]
  exact gather_apply b y

/-- The reference's result is the sum of the patches and the table. -/
theorem result_eq (a : S128x576x768.Idx → Elt F .f32) (b : S576x768.Idx → Elt F .f32) :
    addf a (broadcastInDim S128x576x768 ![0, 1, 2] bcast_S1x576x768_S128x576x768_0_1_2
      (broadcastInDim S1x576x768 ![1, 2] bcast_S576x768_S1x576x768_1_2 (taken b))) = Cert.Proof.Run.sumVal a b := by
  rw [taken_eq]
  funext i
  refine congrArg (FloatOps.addf (φ := .f32) (a i)) (congrArg b (funext fun k => ?_))
  match k with
  | ⟨0, _⟩ => rfl
  | ⟨1, _⟩ => rfl

/-- The reference's run: the sum, and both arguments kept. -/
theorem run_reference (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8)
          = Cert.Proof.Run.sumVal (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨((h c).1).trans (result_eq _ _), (h c).2⟩) (Cert.ReferenceIdeal.Value.run m ρ)

end Cert.Proof.Ref

end
-- ==== Proof.lean ====
/-
  The claims. The kernel's run is written once, for any float values (`Run.run_main`), and the reference's likewise
  (`Ref.run_reference`): both end with the sum of the patches and the table. Each claim is an instance of the two.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Reference
public import proofs.«01_k».proof.Proof.Main
public import proofs.«01_k».proof.Proof.RefValue
public import Idealize.ShloMosaic.Adequacy
public import Idealize.ShloMosaic.Init

@[expose] public section

noncomputable section

namespace Cert.Proof

open Idealize.ShloMosaic Idealize.SL.Sem

/-! ## The two printings of the kernel -/

/-- The two printings have the same bodies at the machine's floats: processor by processor, label by label. -/
theorem bodies_eq : Cert.Kernel.defs₀ (F := Bits) = Cert.KernelIdeal.defs₀ (F := Bits) := by
  funext p ℓ a
  match p, ℓ, a with
  | .tc, 0, (t, s) => rfl
  | .tc, 1, _ => rfl
  | .scScalar _, 0, _ => rfl
  | .scScalar _, 1, _ => rfl
  | .scVector c s, 0, _ => rfl
  | .scVector c s, 1, _ => rfl

/-- So they have the same table of bodies once the pipeline and the SparseCore call are added. -/
theorem defs_eq : Cert.Kernel.defs (F := Bits) = Cert.KernelIdeal.defs (F := Bits) :=
  congrArg (fun D => Cert.KernelIdeal.sc.defs (Pipeline.defs (Cert.KernelIdeal.pcfgs (F := Bits)) D)) bodies_eq

/-- And they run the same program on every thread. -/
theorem threads_eq : Cert.Kernel.threads (F := Bits) = Cert.KernelIdeal.threads (F := Bits) := rfl

/-- The kernel's run at the machine's floats, from the run proved for any floats. -/
theorem run_Kernel (m : (ℓ : Loc Cert.Kernel.nD Cert.Kernel.τ Cert.Kernel.sig) → Buf (Elt Bits) ℓ)
    (ρ : Dev Cert.Kernel.nD → PrngReg) :
    θ_run (Cert.Kernel.defs (F := Bits)) (Cert.Kernel.threads (F := Bits)) ⟨m, fun _ => 0, ρ⟩ (Run.QC (F := Bits) m) := by
  rw [defs_eq]
  exact Run.run_main (F := Bits) m ρ

/-! ## The frames -/

theorem frame_Kernel : Cert.quiescent_Kernel := fun m ρ _ =>
  (θ_run Cert.Kernel.defs _ _).mono (fun _ h => ⟨fun c => ⟨(h.1 c).1, (h.1 c).2.1⟩, h.2⟩) (run_Kernel m ρ)

theorem frame_KernelIdeal : Cert.quiescent_KernelIdeal := fun m ρ _ =>
  (θ_run Cert.KernelIdeal.defs _ _).mono (fun _ h => ⟨fun c => ⟨(h.1 c).1, (h.1 c).2.1⟩, h.2⟩) (Run.run_main (F := Ideal) m ρ)

theorem frame_ReferenceIdeal : Cert.quiescent_ReferenceIdeal := fun m ρ _ =>
  (θ_run Cert.ReferenceIdeal.defs _ _).mono
    (fun r h => ⟨fun c => (h c).2, sem_eq_zero_of_no_sems (by decide) r.2⟩) (Ref.run_reference (F := Ideal) m ρ)

theorem frame_Reference : Cert.quiescent_Reference := fun m ρ _ =>
  (θ_run Cert.ReferenceIdeal.defs _ _).mono
    (fun r h => ⟨fun c => (h c).2, sem_eq_zero_of_no_sems (by decide) r.2⟩) (Ref.run_reference (F := Bits) m ρ)

/-! ## The values -/

/-- Over the extended reals, both end with the sum. -/
theorem algebraic : Cert.algebraic_KernelIdeal_ReferenceIdeal := by
  intro m ρ m' ρ' _ hargs
  refine ⟨fun c => Run.sumVal (m (Run.aLoc c)) (m (Run.bLoc c)), ?_, ?_⟩
  · exact (θ_run Cert.KernelIdeal.defs _ _).mono (fun _ h c => ⟨(h.1 c).2.2, (h.1 c).1, (h.1 c).2.1⟩) (Run.run_main (F := Ideal) m ρ)
  · exact (θ_run Cert.ReferenceIdeal.defs _ _).mono
      (fun _ h c => ⟨(h c).1.trans (congrArg₂ Run.sumVal (hargs c).1 (hargs c).2), (h c).2⟩) (Ref.run_reference (F := Ideal) m' ρ')

/-- On the machine's floats, both end with the same words. -/
theorem bitexact : Cert.bitexact_Kernel_Reference := by
  intro m ρ m' ρ' _ hargs
  refine ⟨fun c => Run.sumVal (m (Run.aLoc c)) (m (Run.bLoc c)), ?_, ?_⟩
  · exact (θ_run Cert.Kernel.defs _ _).mono (fun _ h c => ⟨(h.1 c).2.2, (h.1 c).1, (h.1 c).2.1⟩) (run_Kernel m ρ)
  · exact (θ_run Cert.ReferenceIdeal.defs _ _).mono
      (fun _ h c => ⟨(h c).1.trans (congrArg₂ Run.sumVal (hargs c).1 (hargs c).2), (h c).2⟩) (Ref.run_reference (F := Bits) m' ρ')

theorem claim : Cert.Claim :=
  ⟨Cert.Kernel.Gen.facts, Cert.KernelIdeal.Gen.facts, Cert.ReferenceIdeal.Gen.facts, Cert.Reference.Gen.facts,
    frame_Kernel, frame_KernelIdeal, frame_ReferenceIdeal, frame_Reference, trivial, algebraic, bitexact⟩

end Cert.Proof

end
